-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x256x256 : Shape := ⟨3, ![2, 256, 256]⟩
abbrev S2x128x256 : Shape := ⟨3, ![2, 128, 256]⟩
abbrev S36 : Shape := ⟨1, ![36]⟩
abbrev S_ : Shape := ⟨0, ![]⟩
abbrev S1 : Shape := ⟨1, ![1]⟩
abbrev S1x32x256 : Shape := ⟨3, ![1, 32, 256]⟩
abbrev S32x256 : Shape := ⟨2, ![32, 256]⟩
abbrev S1x128x256 : Shape := ⟨3, ![1, 128, 256]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S2x256x256, .f32⟩
  | .local _ .vmem, ⟨3, _⟩ => ⟨S2x128x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_13 : BitVec 32 := 1#32
  let v34 : BitVec 32 := Scalar.muli v31 c1_i32_13
  let v35 : BitVec 32 := Scalar.addi c0_i32_14 v34
  v35.toNat
def k0_dev2 (d0 : Dev nD) : Nat :=
  let c0_i32_17 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_16 : BitVec 32 := 1#32
  let v36 : BitVec 32 := Scalar.muli v32 c1_i32_16
  let v37 : BitVec 32 := Scalar.addi c0_i32_17 v36
  v37.toNat
def k0_off1 (d0 : Dev nD) (c0_i32_36 : BitVec 32) : Fin 3 → Nat :=
  let c0_i32_37 : BitVec 32 := 0#32
  let c1_i32_29 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v54 : BitVec 32 := Scalar.subi c1_i32_29 v19
  let c128_i32_30 : BitVec 32 := 128#32
  let v55 : BitVec 32 := Scalar.muli v54 c128_i32_30
  let v62 : BitVec 32 := Scalar.addi v55 c0_i32_36
  let c0_i32_42 : BitVec 32 := 0#32
  ![0, v62.toNat, 0]
def k0_off2 (d0 : Dev nD) (c0_i32_35 : BitVec 32) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v41 : BitVec 32 := Scalar.subi c1_i32_19 v30
  let c256_i32_20 : BitVec 32 := 256#32
  let v42 : BitVec 32 := Scalar.muli v41 c256_i32_20
  let c1_i32_29 : BitVec 32 := 1#32
  let v54 : BitVec 32 := Scalar.subi c1_i32_29 v19
  let c128_i32_30 : BitVec 32 := 128#32
  let v55 : BitVec 32 := Scalar.muli v54 c128_i32_30
  let v60 : BitVec 32 := Scalar.addi v42 v55
  let v61 : BitVec 32 := Scalar.addi v60 c0_i32_35
  let c0_i32_43 : BitVec 32 := 0#32
  ![v61.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_40 : BitVec 32 := 1#32
  let v63 : BitVec 32 := Scalar.muli v31 c1_i32_40
  let v64 : BitVec 32 := Scalar.addi c0_i32_41 v63
  v64.toNat
def k0_off3 (d0 : Dev nD) (c0_i32_45 : BitVec 32) : Fin 3 → Nat :=
  let c1_i32_46 : BitVec 32 := 1#32
  let c1_i32_31 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v56 : BitVec 32 := Scalar.subi c1_i32_31 v30
  let c128_i32_32 : BitVec 32 := 128#32
  let v57 : BitVec 32 := Scalar.muli v56 c128_i32_32
  let v74 : BitVec 32 := Scalar.addi v57 c0_i32_45
  let c0_i32_51 : BitVec 32 := 0#32
  ![1, v74.toNat, 0]
def k0_off4 (d0 : Dev nD) (c0_i32_44 : BitVec 32) : Fin 2 → Nat :=
  let c1_i32_25 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v49 : BitVec 32 := Scalar.subi c1_i32_25 v19
  let c256_i32_26 : BitVec 32 := 256#32
  let v50 : BitVec 32 := Scalar.muli v49 c256_i32_26
  let c1_i32_31 : BitVec 32 := 1#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let v56 : BitVec 32 := Scalar.subi c1_i32_31 v30
  let c128_i32_32 : BitVec 32 := 128#32
  let v57 : BitVec 32 := Scalar.muli v56 c128_i32_32
  let v72 : BitVec 32 := Scalar.addi v50 v57
  let v73 : BitVec 32 := Scalar.addi v72 c0_i32_44
  let c256_i32_52 : BitVec 32 := 256#32
  ![v73.toNat, 256]
def k0_dev4 (d0 : Dev nD) : Nat :=
  let c0_i32_50 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_49 : BitVec 32 := 1#32
  let v75 : BitVec 32 := Scalar.muli v32 c1_i32_49
  let v76 : BitVec 32 := Scalar.addi c0_i32_50 v75
  v76.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_57 : BitVec 32 := 1#32
  let v87 : BitVec 32 := Scalar.muli v31 c1_i32_57
  let v88 : BitVec 32 := Scalar.addi c0_i32_58 v87
  v88.toNat
def k0_dev6 (d0 : Dev nD) : Nat :=
  let c0_i32_67 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_66 : BitVec 32 := 1#32
  let v99 : BitVec 32 := Scalar.muli v32 c1_i32_66
  let v100 : BitVec 32 := Scalar.addi c0_i32_67 v99
  v100.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_74 : BitVec 32 := 1#32
  let v111 : BitVec 32 := Scalar.muli v31 c1_i32_74
  let v112 : BitVec 32 := Scalar.addi c0_i32_75 v111
  v112.toNat
def k0_dev8 (d0 : Dev nD) : Nat :=
  let c0_i32_83 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_82 : BitVec 32 := 1#32
  let v123 : BitVec 32 := Scalar.muli v32 c1_i32_82
  let v124 : BitVec 32 := Scalar.addi c0_i32_83 v123
  v124.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_89 : BitVec 32 := 1#32
  let v135 : BitVec 32 := Scalar.muli v31 c1_i32_89
  let v136 : BitVec 32 := Scalar.addi c0_i32_90 v135
  v136.toNat
def k0_dev10 (d0 : Dev nD) : Nat :=
  let c0_i32_98 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_97 : BitVec 32 := 1#32
  let v147 : BitVec 32 := Scalar.muli v32 c1_i32_97
  let v148 : BitVec 32 := Scalar.addi c0_i32_98 v147
  v148.toNat
def k0_off5 (d0 : Dev nD) : Fin 3 → Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_33 : BitVec 32 := 128#32
  let v58 : BitVec 32 := Scalar.muli v19 c128_i32_33
  let c0_i32_105 : BitVec 32 := 0#32
  ![0, v58.toNat, 0]
def k0_off6 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v41 : BitVec 32 := Scalar.subi c1_i32_19 v30
  let c256_i32_20 : BitVec 32 := 256#32
  let v42 : BitVec 32 := Scalar.muli v41 c256_i32_20
  let c128_i32_33 : BitVec 32 := 128#32
  let v58 : BitVec 32 := Scalar.muli v19 c128_i32_33
  let v156 : BitVec 32 := Scalar.addi v42 v58
  let c0_i32_106 : BitVec 32 := 0#32
  ![v156.toNat, 0]
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_103 : BitVec 32 := 1#32
  let v157 : BitVec 32 := Scalar.muli v31 c1_i32_103
  let v158 : BitVec 32 := Scalar.addi c0_i32_104 v157
  v158.toNat
def k0_off7 (d0 : Dev nD) : Fin 3 → Nat :=
  let c1_i32_107 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_34 : BitVec 32 := 128#32
  let v59 : BitVec 32 := Scalar.muli v30 c128_i32_34
  let c0_i32_111 : BitVec 32 := 0#32
  ![1, v59.toNat, 0]
def k0_off8 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v49 : BitVec 32 := Scalar.subi c1_i32_25 v19
  let c256_i32_26 : BitVec 32 := 256#32
  let v50 : BitVec 32 := Scalar.muli v49 c256_i32_26
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_34 : BitVec 32 := 128#32
  let v59 : BitVec 32 := Scalar.muli v30 c128_i32_34
  let v166 : BitVec 32 := Scalar.addi v50 v59
  let c256_i32_112 : BitVec 32 := 256#32
  ![v166.toNat, 256]
def k0_dev12 (d0 : Dev nD) : Nat :=
  let c0_i32_110 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_109 : BitVec 32 := 1#32
  let v167 : BitVec 32 := Scalar.muli v32 c1_i32_109
  let v168 : BitVec 32 := Scalar.addi c0_i32_110 v167
  v168.toNat
def k0_off9 (d0 : Dev nD) (c0_i32_120 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32 : BitVec 32 := 256#32
  let v38 : BitVec 32 := Scalar.muli v30 c256_i32
  let c1_i32_21 : BitVec 32 := 1#32
  let v43 : BitVec 32 := Scalar.subi c1_i32_21 v19
  let c128_i32_22 : BitVec 32 := 128#32
  let v44 : BitVec 32 := Scalar.muli v43 c128_i32_22
  let v45 : BitVec 32 := Scalar.addi v38 v44
  let v183 : BitVec 32 := Scalar.addi v45 c0_i32_120
  let v184 : Index := Scalar.indexCast v183
  let c0 : Index := 0#32
  ![v184.toNat, 0]
def k0_off10 (d0 : Dev nD) (c0_i32_121 : BitVec 32) : Fin 3 → Nat :=
  let c0_122 : Index := 0#32
  let c1_i32_29 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v54 : BitVec 32 := Scalar.subi c1_i32_29 v19
  let c128_i32_30 : BitVec 32 := 128#32
  let v55 : BitVec 32 := Scalar.muli v54 c128_i32_30
  let v187 : BitVec 32 := Scalar.addi v55 c0_i32_121
  let v188 : Index := Scalar.indexCast v187
  let c0_123 : Index := 0#32
  ![0, v188.toNat, 0]
def k0_off11 (d0 : Dev nD) (c0_i32_120 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32 : BitVec 32 := 256#32
  let v38 : BitVec 32 := Scalar.muli v30 c256_i32
  let c1_i32_21 : BitVec 32 := 1#32
  let v43 : BitVec 32 := Scalar.subi c1_i32_21 v19
  let c128_i32_22 : BitVec 32 := 128#32
  let v44 : BitVec 32 := Scalar.muli v43 c128_i32_22
  let v45 : BitVec 32 := Scalar.addi v38 v44
  let v183 : BitVec 32 := Scalar.addi v45 c0_i32_120
  let c0_i32_131 : BitVec 32 := 0#32
  ![v183.toNat, 0]
def k0_dev13 (d0 : Dev nD) : Nat :=
  let c0_i32_128 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_127 : BitVec 32 := 1#32
  let v194 : BitVec 32 := Scalar.muli v32 c1_i32_127
  let v195 : BitVec 32 := Scalar.addi c0_i32_128 v194
  v195.toNat
def k0_off12 (d0 : Dev nD) (c0_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_23 : BitVec 32 := 256#32
  let v46 : BitVec 32 := Scalar.muli v19 c256_i32_23
  let c1_i32_27 : BitVec 32 := 1#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let v51 : BitVec 32 := Scalar.subi c1_i32_27 v30
  let c128_i32_28 : BitVec 32 := 128#32
  let v52 : BitVec 32 := Scalar.muli v51 c128_i32_28
  let v53 : BitVec 32 := Scalar.addi v46 v52
  let v210 : BitVec 32 := Scalar.addi v53 c0_i32_139
  let v211 : Index := Scalar.indexCast v210
  let c256 : Index := 256#32
  ![v211.toNat, 256]
def k0_off13 (d0 : Dev nD) (c0_i32_140 : BitVec 32) : Fin 3 → Nat :=
  let c1 : Index := 1#32
  let c1_i32_31 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v56 : BitVec 32 := Scalar.subi c1_i32_31 v30
  let c128_i32_32 : BitVec 32 := 128#32
  let v57 : BitVec 32 := Scalar.muli v56 c128_i32_32
  let v214 : BitVec 32 := Scalar.addi v57 c0_i32_140
  let v215 : Index := Scalar.indexCast v214
  let c0_141 : Index := 0#32
  ![1, v215.toNat, 0]
def k0_off14 (d0 : Dev nD) (c0_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_23 : BitVec 32 := 256#32
  let v46 : BitVec 32 := Scalar.muli v19 c256_i32_23
  let c1_i32_27 : BitVec 32 := 1#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let v51 : BitVec 32 := Scalar.subi c1_i32_27 v30
  let c128_i32_28 : BitVec 32 := 128#32
  let v52 : BitVec 32 := Scalar.muli v51 c128_i32_28
  let v53 : BitVec 32 := Scalar.addi v46 v52
  let v210 : BitVec 32 := Scalar.addi v53 c0_i32_139
  let c256_i32_149 : BitVec 32 := 256#32
  ![v210.toNat, 256]
def k0_dev14 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_145 : BitVec 32 := 1#32
  let v221 : BitVec 32 := Scalar.muli v31 c1_i32_145
  let v222 : BitVec 32 := Scalar.addi c0_i32_146 v221
  v222.toNat
def k0_dev15 (d0 : Dev nD) : Nat :=
  let c0_i32_166 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_165 : BitVec 32 := 1#32
  let v248 : BitVec 32 := Scalar.muli v32 c1_i32_165
  let v249 : BitVec 32 := Scalar.addi c0_i32_166 v248
  v249.toNat
def k0_dev16 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_185 : BitVec 32 := 1#32
  let v275 : BitVec 32 := Scalar.muli v31 c1_i32_185
  let v276 : BitVec 32 := Scalar.addi c0_i32_186 v275
  v276.toNat
def k0_dev17 (d0 : Dev nD) : Nat :=
  let c0_i32_206 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_205 : BitVec 32 := 1#32
  let v302 : BitVec 32 := Scalar.muli v32 c1_i32_205
  let v303 : BitVec 32 := Scalar.addi c0_i32_206 v302
  v303.toNat
def k0_dev18 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_225 : BitVec 32 := 1#32
  let v329 : BitVec 32 := Scalar.muli v31 c1_i32_225
  let v330 : BitVec 32 := Scalar.addi c0_i32_226 v329
  v330.toNat
def k0_dev19 (d0 : Dev nD) : Nat :=
  let c0_i32_246 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_245 : BitVec 32 := 1#32
  let v356 : BitVec 32 := Scalar.muli v32 c1_i32_245
  let v357 : BitVec 32 := Scalar.addi c0_i32_246 v356
  v357.toNat
def k0_dev20 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_265 : BitVec 32 := 1#32
  let v383 : BitVec 32 := Scalar.muli v31 c1_i32_265
  let v384 : BitVec 32 := Scalar.addi c0_i32_266 v383
  v384.toNat
def k0_off15 (d0 : Dev nD) (c0_i32_292 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32 : BitVec 32 := 256#32
  let v38 : BitVec 32 := Scalar.muli v30 c256_i32
  let c128_i32 : BitVec 32 := 128#32
  let v39 : BitVec 32 := Scalar.muli v19 c128_i32
  let v40 : BitVec 32 := Scalar.addi v38 v39
  let v413 : BitVec 32 := Scalar.addi v40 c0_i32_292
  let v414 : Index := Scalar.indexCast v413
  let c0_293 : Index := 0#32
  ![v414.toNat, 0]
def k0_off16 (d0 : Dev nD) (c0_i32_294 : BitVec 32) : Fin 3 → Nat :=
  let c0_295 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_33 : BitVec 32 := 128#32
  let v58 : BitVec 32 := Scalar.muli v19 c128_i32_33
  let v417 : BitVec 32 := Scalar.addi v58 c0_i32_294
  let v418 : Index := Scalar.indexCast v417
  let c0_296 : Index := 0#32
  ![0, v418.toNat, 0]
def k0_off17 (d0 : Dev nD) (c0_i32_292 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32 : BitVec 32 := 256#32
  let v38 : BitVec 32 := Scalar.muli v30 c256_i32
  let c128_i32 : BitVec 32 := 128#32
  let v39 : BitVec 32 := Scalar.muli v19 c128_i32
  let v40 : BitVec 32 := Scalar.addi v38 v39
  let v413 : BitVec 32 := Scalar.addi v40 c0_i32_292
  let c0_i32_304 : BitVec 32 := 0#32
  ![v413.toNat, 0]
def k0_dev21 (d0 : Dev nD) : Nat :=
  let c0_i32_303 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_302 : BitVec 32 := 1#32
  let v427 : BitVec 32 := Scalar.muli v32 c1_i32_302
  let v428 : BitVec 32 := Scalar.addi c0_i32_303 v427
  v428.toNat
def k0_off18 (d0 : Dev nD) (c0_i32_314 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_23 : BitVec 32 := 256#32
  let v46 : BitVec 32 := Scalar.muli v19 c256_i32_23
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_24 : BitVec 32 := 128#32
  let v47 : BitVec 32 := Scalar.muli v30 c128_i32_24
  let v48 : BitVec 32 := Scalar.addi v46 v47
  let v442 : BitVec 32 := Scalar.addi v48 c0_i32_314
  let v443 : Index := Scalar.indexCast v442
  let c256_315 : Index := 256#32
  ![v443.toNat, 256]
def k0_off19 (d0 : Dev nD) (c0_i32_316 : BitVec 32) : Fin 3 → Nat :=
  let c1_317 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_34 : BitVec 32 := 128#32
  let v59 : BitVec 32 := Scalar.muli v30 c128_i32_34
  let v446 : BitVec 32 := Scalar.addi v59 c0_i32_316
  let v447 : Index := Scalar.indexCast v446
  let c0_318 : Index := 0#32
  ![1, v447.toNat, 0]
def k0_off20 (d0 : Dev nD) (c0_i32_314 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_23 : BitVec 32 := 256#32
  let v46 : BitVec 32 := Scalar.muli v19 c256_i32_23
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_24 : BitVec 32 := 128#32
  let v47 : BitVec 32 := Scalar.muli v30 c128_i32_24
  let v48 : BitVec 32 := Scalar.addi v46 v47
  let v442 : BitVec 32 := Scalar.addi v48 c0_i32_314
  let c256_i32_326 : BitVec 32 := 256#32
  ![v442.toNat, 256]
def k0_dev22 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_324 : BitVec 32 := 1#32
  let v456 : BitVec 32 := Scalar.muli v31 c1_i32_324
  let v457 : BitVec 32 := Scalar.addi c0_i32_325 v456
  v457.toNat
def k0_dev23 (d0 : Dev nD) : Nat :=
  let c0_i32_346 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_345 : BitVec 32 := 1#32
  let v485 : BitVec 32 := Scalar.muli v32 c1_i32_345
  let v486 : BitVec 32 := Scalar.addi c0_i32_346 v485
  v486.toNat
def k0_dev24 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_367 : BitVec 32 := 1#32
  let v514 : BitVec 32 := Scalar.muli v31 c1_i32_367
  let v515 : BitVec 32 := Scalar.addi c0_i32_368 v514
  v515.toNat
def k0_dev25 (d0 : Dev nD) : Nat :=
  let c0_i32_389 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_388 : BitVec 32 := 1#32
  let v543 : BitVec 32 := Scalar.muli v32 c1_i32_388
  let v544 : BitVec 32 := Scalar.addi c0_i32_389 v543
  v544.toNat
def k0_dev26 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_410 : BitVec 32 := 1#32
  let v572 : BitVec 32 := Scalar.muli v31 c1_i32_410
  let v573 : BitVec 32 := Scalar.addi c0_i32_411 v572
  v573.toNat
def k0_dev27 (d0 : Dev nD) : Nat :=
  let c0_i32_432 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_431 : BitVec 32 := 1#32
  let v601 : BitVec 32 := Scalar.muli v32 c1_i32_431
  let v602 : BitVec 32 := Scalar.addi c0_i32_432 v601
  v602.toNat
def k0_dev28 (d0 : Dev nD) : Nat :=
  let c0_i32_454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_453 : BitVec 32 := 1#32
  let v630 : BitVec 32 := Scalar.muli v31 c1_i32_453
  let v631 : BitVec 32 := Scalar.addi c0_i32_454 v630
  v631.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32 : BitVec 32 := 256#32
  let v38 : BitVec 32 := Scalar.muli v30 c256_i32
  let c128_i32 : BitVec 32 := 128#32
  let v39 : BitVec 32 := Scalar.muli v19 c128_i32
  let v40 : BitVec 32 := Scalar.addi v38 v39
  let c0_i32_460 : BitVec 32 := 0#32
  ![v40.toNat, 0]
def k0_dev29 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_458 : BitVec 32 := 1#32
  let v638 : BitVec 32 := Scalar.muli v31 c1_i32_458
  let v639 : BitVec 32 := Scalar.addi c0_i32_459 v638
  v639.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_23 : BitVec 32 := 256#32
  let v46 : BitVec 32 := Scalar.muli v19 c256_i32_23
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_24 : BitVec 32 := 128#32
  let v47 : BitVec 32 := Scalar.muli v30 c128_i32_24
  let v48 : BitVec 32 := Scalar.addi v46 v47
  let c256_i32_465 : BitVec 32 := 256#32
  ![v48.toNat, 256]
def k0_dev30 (d0 : Dev nD) : Nat :=
  let c0_i32_464 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_463 : BitVec 32 := 1#32
  let v646 : BitVec 32 := Scalar.muli v32 c1_i32_463
  let v647 : BitVec 32 := Scalar.addi c0_i32_464 v646
  v647.toNat
def k0_dev31 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_475 : BitVec 32 := 1#32
  let v661 : BitVec 32 := Scalar.muli v31 c1_i32_475
  let v662 : BitVec 32 := Scalar.addi c0_i32_476 v661
  v662.toNat
def k0_dev32 (d0 : Dev nD) : Nat :=
  let c0_i32_488 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_487 : BitVec 32 := 1#32
  let v676 : BitVec 32 := Scalar.muli v32 c1_i32_487
  let v677 : BitVec 32 := Scalar.addi c0_i32_488 v676
  v677.toNat
def k0_dev33 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_499 : BitVec 32 := 1#32
  let v691 : BitVec 32 := Scalar.muli v31 c1_i32_499
  let v692 : BitVec 32 := Scalar.addi c0_i32_500 v691
  v692.toNat
def k0_dev34 (d0 : Dev nD) : Nat :=
  let c0_i32_512 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_511 : BitVec 32 := 1#32
  let v706 : BitVec 32 := Scalar.muli v32 c1_i32_511
  let v707 : BitVec 32 := Scalar.addi c0_i32_512 v706
  v707.toNat
def k0_dev35 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_524 : BitVec 32 := 1#32
  let v721 : BitVec 32 := Scalar.muli v31 c1_i32_524
  let v722 : BitVec 32 := Scalar.addi c0_i32_525 v721
  v722.toNat
def k0_dev36 (d0 : Dev nD) : Nat :=
  let c0_i32_537 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_536 : BitVec 32 := 1#32
  let v736 : BitVec 32 := Scalar.muli v32 c1_i32_536
  let v737 : BitVec 32 := Scalar.addi c0_i32_537 v736
  v737.toNat
def k0_dev37 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.xori v2 c1_i32_11
  let c1_i32_548 : BitVec 32 := 1#32
  let v751 : BitVec 32 := Scalar.muli v31 c1_i32_548
  let v752 : BitVec 32 := Scalar.addi c0_i32_549 v751
  v752.toNat
def k0_dev38 (d0 : Dev nD) : Nat :=
  let c0_i32_561 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.subi c3_i32 v2
  let c1_i32_560 : BitVec 32 := 1#32
  let v766 : BitVec 32 := Scalar.muli v32 c1_i32_560
  let v767 : BitVec 32 := Scalar.addi c0_i32_561 v766
  v767.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x512, .f32⟩
  | .hbm, ⟨2, _⟩ => ⟨S_, .f32⟩
  | .hbm, ⟨3, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Geometry.lean ====
/-
The four devices as the two-by-two cube the transfers run over: the neighbours of a device, the row
blocks a device keeps and gives away, the transfers and their semaphores, and the closed forms of
the offsets and devices the kernel computes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours and row blocks -/

/-- A half of the columns: side `0` is columns `0..255`, side `1` columns `256..511`. -/
abbrev Side : Type := Fin 2

/-- A 32-row piece of a 128-row block, of one side. -/
abbrev Pc : Type := Fin 2 × Fin 4

/-- The other side. -/
def oth (σ : Side) : Side := ⟨1 - σ.val, by omega⟩

/-- The neighbour of `c` across direction `δ`: direction `0` pairs `0–1` and `2–3`, direction `1`
pairs `0–3` and `1–2`. -/
def nbr (δ : Side) (c : Dev nD) : Dev nD :=
  if δ = 0 then ⟨(c.val / 2) * 2 + (1 - c.val % 2), by have := c.isLt; revert this; simp only [nD]; omega⟩
  else ⟨3 - c.val, by simp only [nD]; omega⟩

/-- The half of the rows device `c` keeps after the first exchange of side `σ`. -/
def hf (σ : Side) (c : Dev nD) : ℕ := if σ = 0 then (c.val % 2 + c.val / 2) % 2 else c.val / 2
/-- The quarter within that half which device `c` keeps after the second exchange of side `σ`. -/
def qt (σ : Side) (c : Dev nD) : ℕ := if σ = 0 then c.val / 2 else (c.val % 2 + c.val / 2) % 2

/-- First row of the half device `c` gives away. -/
def s1 (σ : Side) (c : Dev nD) : ℕ := 256 * (1 - hf σ c)
/-- First row of the half device `c` keeps. -/
def r1 (σ : Side) (c : Dev nD) : ℕ := 256 * hf σ c
/-- First row of the quarter device `c` keeps. -/
def r2 (σ : Side) (c : Dev nD) : ℕ := 256 * hf σ c + 128 * qt σ c
/-- First row of the quarter of the kept half that device `c` gives away. -/
def s2 (σ : Side) (c : Dev nD) : ℕ := 256 * hf σ c + 128 * (1 - qt σ c)
/-- Within a half, the quarter exchanged piece by piece. -/
def f1 (σ : Side) (c : Dev nD) : ℕ := 128 * (1 - qt σ c)
/-- Within a half, the quarter exchanged at once. -/
def k1 (σ : Side) (c : Dev nD) : ℕ := 128 * qt σ c

theorem nbr_nbr (δ : Side) (c : Dev nD) : nbr δ (nbr δ c) = c := by revert δ c; decide
theorem oth_oth (σ : Side) : oth (oth σ) = σ := by revert σ; decide
theorem oth_ne (σ : Side) : oth σ ≠ σ := by revert σ; decide
theorem nbr_ne (δ : Side) (c : Dev nD) : nbr δ c ≠ c := by revert δ c; decide
theorem hf_nbr (σ : Side) (c : Dev nD) : hf σ (nbr σ c) = 1 - hf σ c := by revert σ c; decide
theorem qt_nbr (σ : Side) (c : Dev nD) : qt σ (nbr σ c) = qt σ c := by revert σ c; decide
theorem hf_oth (σ : Side) (c : Dev nD) : hf σ (nbr (oth σ) c) = hf σ c := by revert σ c; decide
theorem qt_oth (σ : Side) (c : Dev nD) : qt σ (nbr (oth σ) c) = 1 - qt σ c := by revert σ c; decide
theorem hf_le (σ : Side) (c : Dev nD) : hf σ c ≤ 1 := by revert σ c; decide
theorem qt_le (σ : Side) (c : Dev nD) : qt σ c ≤ 1 := by revert σ c; decide
theorem nbr_comm (c : Dev nD) : nbr 0 (nbr 1 c) = nbr 1 (nbr 0 c) := by revert c; decide

/-- The neighbours across one direction, as a permutation of the devices. -/
def nbrE (δ : Side) : Dev nD ≃ Dev nD := ⟨nbr δ, nbr δ, nbr_nbr δ, nbr_nbr δ⟩

/-- The device that sums the block of rows holding row `r` on side `σ`. -/
def owner (σ : Side) (r : ℕ) : Dev nD :=
  let h := (r / 256) % 2
  let q := (r / 128) % 2
  let a := if σ = 0 then q else h
  let b := if σ = 0 then h else q
  ⟨2 * a + (a + b) % 2, by simp only [nD]; have : a ≤ 1 := by { simp only [a, h, q]; split <;> omega }; omega⟩

theorem owner_eq (σ : Side) (c : Dev nD) (r : ℕ) (h0 : r2 σ c ≤ r) (h1 : r < r2 σ c + 128) : owner σ r = c := by
  have hh := hf_le σ c
  have hq := qt_le σ c
  unfold r2 at h0 h1
  have e1 : (r / 256) % 2 = hf σ c := by omega
  have e2 : (r / 128) % 2 = qt σ c := by omega
  unfold owner
  rw [Fin.ext_iff]
  simp only [e1, e2]
  clear e1 e2 h0 h1 hh hq
  revert σ c; decide

/-! ## The transfers -/

/-- The transfers each device starts, by stage: the first exchange piece by piece, the first exchange
at once, the second exchange, the gather of the finished pieces, the gather of the finished block, the
gather of the pieces received. -/
abbrev Tr : Type := Pc ⊕ Side ⊕ Pc ⊕ Pc ⊕ Side ⊕ Pc

instance : DecidableEq Pc := instDecidableEqProd
instance : DecidableEq Tr :=
  have e1 : DecidableEq (Side ⊕ Pc) := instDecidableEqSum
  have e2 : DecidableEq (Pc ⊕ Side ⊕ Pc) := instDecidableEqSum
  have e3 : DecidableEq (Pc ⊕ Pc ⊕ Side ⊕ Pc) := instDecidableEqSum
  have e4 : DecidableEq (Side ⊕ Pc ⊕ Pc ⊕ Side ⊕ Pc) := instDecidableEqSum
  instDecidableEqSum

abbrev tA (p : Pc) : Tr := .inl p
abbrev tB (σ : Side) : Tr := .inr (.inl σ)
abbrev tC (p : Pc) : Tr := .inr (.inr (.inl p))
abbrev tD (p : Pc) : Tr := .inr (.inr (.inr (.inl p)))
abbrev tE (σ : Side) : Tr := .inr (.inr (.inr (.inr (.inl σ))))
abbrev tG (p : Pc) : Tr := .inr (.inr (.inr (.inr (.inr p))))

/-- The place of a piece in the order the kernel takes the pieces. -/
def ord (p : Pc) : ℕ := 2 * p.2.val + p.1.val

/-- The place of a transfer in the order the kernel starts the transfers. -/
def idx : Tr → ℕ
  | .inl p => ord p
  | .inr (.inl σ) => 8 + σ.val
  | .inr (.inr (.inl p)) => 10 + ord p
  | .inr (.inr (.inr (.inl p))) => 18 + ord p
  | .inr (.inr (.inr (.inr (.inl σ)))) => 26 + σ.val
  | .inr (.inr (.inr (.inr (.inr p)))) => 28 + ord p

theorem ord_lt (p : Pc) : ord p < 8 := by have := p.1.isLt; have := p.2.isLt; unfold ord; omega
theorem ord_inj {p q : Pc} (h : ord p = ord q) : p = q := by
  have := p.1.isLt; have := q.1.isLt
  unfold ord at h
  exact Prod.ext (Fin.ext (by omega)) (Fin.ext (by omega))
theorem ord_ne {p q : Pc} (h : q ≠ p) : ord q ≠ ord p := fun e => h (ord_inj e)
theorem idx_lt (k : Tr) : idx k < 36 := by revert k; decide
theorem idx_inj {k l : Tr} (h : idx k = idx l) : k = l := by
  rcases k with p | σ | p | p | σ | p <;> rcases l with q | σ' | q | q | σ' | q <;> simp only [idx] at h
  all_goals first
    | (exfalso; have := ord_lt p; have := ord_lt q; omega)
    | (exfalso; have := ord_lt p; omega)
    | (exfalso; have := ord_lt q; omega)
    | (exfalso; omega)
    | (have e := ord_inj (p := p) (q := q) (by omega); rw [e])
    | (have e : σ = σ' := Fin.ext (by omega); rw [e])
theorem idx_ne {k l : Tr} (h : l ≠ k) : idx l ≠ idx k := fun e => h (idx_inj e)

/-- The direction a transfer goes across. -/
def dir : Tr → Side
  | .inl p => p.1
  | .inr (.inl σ) => σ
  | .inr (.inr (.inl p)) => oth p.1
  | .inr (.inr (.inr (.inl p))) => oth p.1
  | .inr (.inr (.inr (.inr (.inl σ)))) => σ
  | .inr (.inr (.inr (.inr (.inr p)))) => p.1

/-- The device a transfer of device `c` lands on (and the one whose transfer lands on `c`). -/
def tgt (c : Dev nD) (k : Tr) : Dev nD := nbr (dir k) c

theorem tgt_tgt (c : Dev nD) (k : Tr) : tgt (tgt c k) k = c := nbr_nbr _ _
theorem tgt_ne (c : Dev nD) (k : Tr) : tgt c k ≠ c := nbr_ne _ _

/-- A device's send semaphore of a transfer. -/
def sendSem (k : Tr) : DmaSem sig := ⟨2 + idx k, by have := idx_lt k; exact lt_of_lt_of_eq (by omega : 2 + idx k < 74) (by decide)⟩
/-- A device's receive semaphore of a transfer. -/
def recvSem (k : Tr) : DmaSem sig := ⟨38 + idx k, by have := idx_lt k; exact lt_of_lt_of_eq (by omega : 38 + idx k < 74) (by decide)⟩

/-- Whether the transfer is of a 128-row block. -/
def big : Tr → Bool
  | .inr (.inl _) => true
  | .inr (.inr (.inr (.inr (.inl _)))) => true
  | _ => false

/-- The amount a transfer's landing credits. -/
def amt (k : Tr) : ℕ := if big k then 4096 else 1024

/-! ## The kernel's devices and offsets -/

/-- The corner of a piece of a side, in the 512 × 512 buffers. -/
def o2 (σ : Side) (R : ℕ) : Fin 2 → ℕ := ![R, 256 * σ.val]
/-- The corner of a piece of a side, in the receive buffers. -/
def o3 (σ : Side) (R : ℕ) : Fin 3 → ℕ := ![σ.val, R, 0]

theorem off1_eq : ∀ (c : Dev nD) (i : Fin 4), k0_off1 c (BitVec.ofNat 32 (32 * i.val)) = o3 0 (f1 0 c + 32 * i.val) := by decide +kernel
theorem off2_eq : ∀ (c : Dev nD) (i : Fin 4), k0_off2 c (BitVec.ofNat 32 (32 * i.val)) = o2 0 (s1 0 c + f1 0 c + 32 * i.val) := by decide +kernel
theorem off3_eq : ∀ (c : Dev nD) (i : Fin 4), k0_off3 c (BitVec.ofNat 32 (32 * i.val)) = o3 1 (f1 1 c + 32 * i.val) := by decide +kernel
theorem off4_eq : ∀ (c : Dev nD) (i : Fin 4), k0_off4 c (BitVec.ofNat 32 (32 * i.val)) = o2 1 (s1 1 c + f1 1 c + 32 * i.val) := by decide +kernel
theorem off5_eq : ∀ (c : Dev nD), k0_off5 c = o3 0 (k1 0 c) := by decide +kernel
theorem off6_eq : ∀ (c : Dev nD), k0_off6 c = o2 0 (s1 0 c + k1 0 c) := by decide +kernel
theorem off7_eq : ∀ (c : Dev nD), k0_off7 c = o3 1 (k1 1 c) := by decide +kernel
theorem off8_eq : ∀ (c : Dev nD), k0_off8 c = o2 1 (s1 1 c + k1 1 c) := by decide +kernel
theorem off9_eq : ∀ (c : Dev nD) (i : Fin 4), k0_off9 c (BitVec.ofNat 32 (32 * i.val)) = o2 0 (s2 0 c + 32 * i.val) := by decide +kernel
theorem off10_eq : ∀ (c : Dev nD) (i : Fin 4), k0_off10 c (BitVec.ofNat 32 (32 * i.val)) = o3 0 (f1 0 c + 32 * i.val) := by decide +kernel
theorem off11_eq : ∀ (c : Dev nD) (i : Fin 4), k0_off11 c (BitVec.ofNat 32 (32 * i.val)) = o2 0 (s2 0 c + 32 * i.val) := by decide +kernel
theorem off12_eq : ∀ (c : Dev nD) (i : Fin 4), k0_off12 c (BitVec.ofNat 32 (32 * i.val)) = o2 1 (s2 1 c + 32 * i.val) := by decide +kernel
theorem off13_eq : ∀ (c : Dev nD) (i : Fin 4), k0_off13 c (BitVec.ofNat 32 (32 * i.val)) = o3 1 (f1 1 c + 32 * i.val) := by decide +kernel
theorem off14_eq : ∀ (c : Dev nD) (i : Fin 4), k0_off14 c (BitVec.ofNat 32 (32 * i.val)) = o2 1 (s2 1 c + 32 * i.val) := by decide +kernel
theorem off15_eq : ∀ (c : Dev nD) (i : Fin 4), k0_off15 c (BitVec.ofNat 32 (32 * i.val)) = o2 0 (r2 0 c + 32 * i.val) := by decide +kernel
theorem off16_eq : ∀ (c : Dev nD) (i : Fin 4), k0_off16 c (BitVec.ofNat 32 (32 * i.val)) = o3 0 (k1 0 c + 32 * i.val) := by decide +kernel
theorem off17_eq : ∀ (c : Dev nD) (i : Fin 4), k0_off17 c (BitVec.ofNat 32 (32 * i.val)) = o2 0 (r2 0 c + 32 * i.val) := by decide +kernel
theorem off18_eq : ∀ (c : Dev nD) (i : Fin 4), k0_off18 c (BitVec.ofNat 32 (32 * i.val)) = o2 1 (r2 1 c + 32 * i.val) := by decide +kernel
theorem off19_eq : ∀ (c : Dev nD) (i : Fin 4), k0_off19 c (BitVec.ofNat 32 (32 * i.val)) = o3 1 (k1 1 c + 32 * i.val) := by decide +kernel
theorem off20_eq : ∀ (c : Dev nD) (i : Fin 4), k0_off20 c (BitVec.ofNat 32 (32 * i.val)) = o2 1 (r2 1 c + 32 * i.val) := by decide +kernel
theorem off21_eq : ∀ (c : Dev nD), k0_off21 c = o2 0 (r2 0 c) := by decide +kernel
theorem off22_eq : ∀ (c : Dev nD), k0_off22 c = o2 1 (r2 1 c) := by decide +kernel

theorem dev1_eq : ∀ c : Dev nD, (⟨k0_dev1 c, k0_dev1_lt c⟩ : Dev nD) = nbr 0 c := by decide +kernel
theorem dev2_eq : ∀ c : Dev nD, (⟨k0_dev2 c, k0_dev2_lt c⟩ : Dev nD) = nbr 1 c := by decide +kernel
theorem dev3_eq : ∀ c : Dev nD, (⟨k0_dev3 c, k0_dev3_lt c⟩ : Dev nD) = nbr 0 c := by decide +kernel
theorem dev4_eq : ∀ c : Dev nD, (⟨k0_dev4 c, k0_dev4_lt c⟩ : Dev nD) = nbr 1 c := by decide +kernel
theorem dev5_eq : ∀ c : Dev nD, (⟨k0_dev5 c, k0_dev5_lt c⟩ : Dev nD) = nbr 0 c := by decide +kernel
theorem dev6_eq : ∀ c : Dev nD, (⟨k0_dev6 c, k0_dev6_lt c⟩ : Dev nD) = nbr 1 c := by decide +kernel
theorem dev7_eq : ∀ c : Dev nD, (⟨k0_dev7 c, k0_dev7_lt c⟩ : Dev nD) = nbr 0 c := by decide +kernel
theorem dev8_eq : ∀ c : Dev nD, (⟨k0_dev8 c, k0_dev8_lt c⟩ : Dev nD) = nbr 1 c := by decide +kernel
theorem dev9_eq : ∀ c : Dev nD, (⟨k0_dev9 c, k0_dev9_lt c⟩ : Dev nD) = nbr 0 c := by decide +kernel
theorem dev10_eq : ∀ c : Dev nD, (⟨k0_dev10 c, k0_dev10_lt c⟩ : Dev nD) = nbr 1 c := by decide +kernel
theorem dev11_eq : ∀ c : Dev nD, (⟨k0_dev11 c, k0_dev11_lt c⟩ : Dev nD) = nbr 0 c := by decide +kernel
theorem dev12_eq : ∀ c : Dev nD, (⟨k0_dev12 c, k0_dev12_lt c⟩ : Dev nD) = nbr 1 c := by decide +kernel
theorem dev13_eq : ∀ c : Dev nD, (⟨k0_dev13 c, k0_dev13_lt c⟩ : Dev nD) = nbr 1 c := by decide +kernel
theorem dev14_eq : ∀ c : Dev nD, (⟨k0_dev14 c, k0_dev14_lt c⟩ : Dev nD) = nbr 0 c := by decide +kernel
theorem dev15_eq : ∀ c : Dev nD, (⟨k0_dev15 c, k0_dev15_lt c⟩ : Dev nD) = nbr 1 c := by decide +kernel
theorem dev16_eq : ∀ c : Dev nD, (⟨k0_dev16 c, k0_dev16_lt c⟩ : Dev nD) = nbr 0 c := by decide +kernel
theorem dev17_eq : ∀ c : Dev nD, (⟨k0_dev17 c, k0_dev17_lt c⟩ : Dev nD) = nbr 1 c := by decide +kernel
theorem dev18_eq : ∀ c : Dev nD, (⟨k0_dev18 c, k0_dev18_lt c⟩ : Dev nD) = nbr 0 c := by decide +kernel
theorem dev19_eq : ∀ c : Dev nD, (⟨k0_dev19 c, k0_dev19_lt c⟩ : Dev nD) = nbr 1 c := by decide +kernel
theorem dev20_eq : ∀ c : Dev nD, (⟨k0_dev20 c, k0_dev20_lt c⟩ : Dev nD) = nbr 0 c := by decide +kernel
theorem dev21_eq : ∀ c : Dev nD, (⟨k0_dev21 c, k0_dev21_lt c⟩ : Dev nD) = nbr 1 c := by decide +kernel
theorem dev22_eq : ∀ c : Dev nD, (⟨k0_dev22 c, k0_dev22_lt c⟩ : Dev nD) = nbr 0 c := by decide +kernel
theorem dev23_eq : ∀ c : Dev nD, (⟨k0_dev23 c, k0_dev23_lt c⟩ : Dev nD) = nbr 1 c := by decide +kernel
theorem dev24_eq : ∀ c : Dev nD, (⟨k0_dev24 c, k0_dev24_lt c⟩ : Dev nD) = nbr 0 c := by decide +kernel
theorem dev25_eq : ∀ c : Dev nD, (⟨k0_dev25 c, k0_dev25_lt c⟩ : Dev nD) = nbr 1 c := by decide +kernel
theorem dev26_eq : ∀ c : Dev nD, (⟨k0_dev26 c, k0_dev26_lt c⟩ : Dev nD) = nbr 0 c := by decide +kernel
theorem dev27_eq : ∀ c : Dev nD, (⟨k0_dev27 c, k0_dev27_lt c⟩ : Dev nD) = nbr 1 c := by decide +kernel
theorem dev28_eq : ∀ c : Dev nD, (⟨k0_dev28 c, k0_dev28_lt c⟩ : Dev nD) = nbr 0 c := by decide +kernel
theorem dev29_eq : ∀ c : Dev nD, (⟨k0_dev29 c, k0_dev29_lt c⟩ : Dev nD) = nbr 0 c := by decide +kernel
theorem dev30_eq : ∀ c : Dev nD, (⟨k0_dev30 c, k0_dev30_lt c⟩ : Dev nD) = nbr 1 c := by decide +kernel
theorem dev31_eq : ∀ c : Dev nD, (⟨k0_dev31 c, k0_dev31_lt c⟩ : Dev nD) = nbr 0 c := by decide +kernel
theorem dev32_eq : ∀ c : Dev nD, (⟨k0_dev32 c, k0_dev32_lt c⟩ : Dev nD) = nbr 1 c := by decide +kernel
theorem dev33_eq : ∀ c : Dev nD, (⟨k0_dev33 c, k0_dev33_lt c⟩ : Dev nD) = nbr 0 c := by decide +kernel
theorem dev34_eq : ∀ c : Dev nD, (⟨k0_dev34 c, k0_dev34_lt c⟩ : Dev nD) = nbr 1 c := by decide +kernel
theorem dev35_eq : ∀ c : Dev nD, (⟨k0_dev35 c, k0_dev35_lt c⟩ : Dev nD) = nbr 0 c := by decide +kernel
theorem dev36_eq : ∀ c : Dev nD, (⟨k0_dev36 c, k0_dev36_lt c⟩ : Dev nD) = nbr 1 c := by decide +kernel
theorem dev37_eq : ∀ c : Dev nD, (⟨k0_dev37 c, k0_dev37_lt c⟩ : Dev nD) = nbr 0 c := by decide +kernel
theorem dev38_eq : ∀ c : Dev nD, (⟨k0_dev38 c, k0_dev38_lt c⟩ : Dev nD) = nbr 1 c := by decide +kernel

/-- The barrier semaphore. -/
abbrev barS : Sem sig := (SemArray.scalar (sig.barrier 0 rfl) : Sems sig S_).sem

end Cert.KernelIdealProof

end
-- ==== Proof.KernelIdeal.Pieces.lean ====
/-
The pieces the kernel moves — rectangles of the staged input, of the output and of the two receive
buffers — and what each holds: the neighbour's input, the two-device sums, the finished sums.
-/
module

public import proofs.«01_k».proof.Proof.KernelIdeal.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Element sets -/

/-- Rows `R..R+n-1` of side `σ`, in the 512 × 512 buffers. -/
def rows2 (σ : Side) (R n : ℕ) : Finset S512x512.Idx :=
  Finset.univ.filter fun i => (R ≤ (i 0).val ∧ (i 0).val < R + n) ∧ 256 * σ.val ≤ (i 1).val ∧ (i 1).val < 256 * σ.val + 256

/-- Rows `R..R+n-1` of side `σ`, in the first receive buffer. -/
def rows3 (σ : Side) (R n : ℕ) : Finset S2x256x256.Idx :=
  Finset.univ.filter fun i => (i 0).val = σ.val ∧ R ≤ (i 1).val ∧ (i 1).val < R + n

/-- Rows `R..R+n-1` of side `σ`, in the second receive buffer. -/
def rows4 (σ : Side) (R n : ℕ) : Finset S2x128x256.Idx :=
  Finset.univ.filter fun i => (i 0).val = σ.val ∧ R ≤ (i 1).val ∧ (i 1).val < R + n

theorem mem_rows2 {σ : Side} {R n : ℕ} {i : S512x512.Idx} : i ∈ rows2 σ R n ↔
    (R ≤ (i 0).val ∧ (i 0).val < R + n) ∧ 256 * σ.val ≤ (i 1).val ∧ (i 1).val < 256 * σ.val + 256 := by
  unfold rows2; rw [Finset.mem_filter]; exact and_iff_right (Finset.mem_univ _)
theorem mem_rows3 {σ : Side} {R n : ℕ} {i : S2x256x256.Idx} : i ∈ rows3 σ R n ↔
    (i 0).val = σ.val ∧ R ≤ (i 1).val ∧ (i 1).val < R + n := by
  unfold rows3; rw [Finset.mem_filter]; exact and_iff_right (Finset.mem_univ _)
theorem mem_rows4 {σ : Side} {R n : ℕ} {i : S2x128x256.Idx} : i ∈ rows4 σ R n ↔
    (i 0).val = σ.val ∧ R ≤ (i 1).val ∧ (i 1).val < R + n := by
  unfold rows4; rw [Finset.mem_filter]; exact and_iff_right (Finset.mem_univ _)

theorem lt2_0 (i : S512x512.Idx) : (i 0).val < 512 := (i 0).isLt
theorem lt2_1 (i : S512x512.Idx) : (i 1).val < 512 := (i 1).isLt
theorem lt3_0 (i : S2x256x256.Idx) : (i 0).val < 2 := (i 0).isLt
theorem lt3_1 (i : S2x256x256.Idx) : (i 1).val < 256 := (i 1).isLt
theorem lt3_2 (i : S2x256x256.Idx) : (i 2).val < 256 := (i 2).isLt
theorem lt4_0 (i : S2x128x256.Idx) : (i 0).val < 2 := (i 0).isLt
theorem lt4_1 (i : S2x128x256.Idx) : (i 1).val < 128 := (i 1).isLt
theorem lt4_2 (i : S2x128x256.Idx) : (i 2).val < 256 := (i 2).isLt

/-- The rectangle at a piece's corner covers the piece: 512 × 512 buffers. -/
theorem rect2 (σ : Side) (R n : ℕ) (inb) :
    (Rect.unit (s := S512x512) (o2 σ R) ![n, 256] inb).set = rows2 σ R n := by
  ext i
  rw [Rect.mem_set_unit, mem_rows2]
  refine ⟨fun h => ⟨h 0, h 1⟩, fun h a => ?_⟩
  rcases a with ⟨_ | _ | a, ha⟩
  · exact h.1
  · exact h.2
  · exact absurd ha (by simp)

/-- The same in the first receive buffer. -/
theorem rect3 (σ : Side) (R n : ℕ) (inb) :
    (Rect.unit (s := S2x256x256) (o3 σ R) ![1, n, 256] inb).set = rows3 σ R n := by
  ext i
  rw [Rect.mem_set_unit, mem_rows3]
  refine ⟨fun h => ?_, fun h a => ?_⟩
  · have h0 : σ.val ≤ (i 0).val ∧ (i 0).val < σ.val + 1 := h 0
    exact ⟨by omega, h 1⟩
  · rcases a with ⟨_ | _ | _ | a, ha⟩
    · show σ.val ≤ (i 0).val ∧ (i 0).val < σ.val + 1
      omega
    · exact h.2
    · exact ⟨Nat.zero_le _, lt_of_lt_of_eq (lt3_2 i) (Nat.zero_add _).symm⟩
    · exact absurd ha (by simp)

/-- The same in the second receive buffer. -/
theorem rect4 (σ : Side) (R n : ℕ) (inb) :
    (Rect.unit (s := S2x128x256) (o3 σ R) ![1, n, 256] inb).set = rows4 σ R n := by
  ext i
  rw [Rect.mem_set_unit, mem_rows4]
  refine ⟨fun h => ?_, fun h a => ?_⟩
  · have h0 : σ.val ≤ (i 0).val ∧ (i 0).val < σ.val + 1 := h 0
    exact ⟨by omega, h 1⟩
  · rcases a with ⟨_ | _ | _ | a, ha⟩
    · show σ.val ≤ (i 0).val ∧ (i 0).val < σ.val + 1
      omega
    · exact h.2
    · exact ⟨Nat.zero_le _, lt_of_lt_of_eq (lt4_2 i) (Nat.zero_add _).symm⟩
    · exact absurd ha (by simp)

/-! ## Contents -/

/-- The index at a row and a column. -/
def ix (r c : ℕ) : S512x512.Idx := Shape.pair (d := ![512, 512]) ⟨r % 512, Nat.mod_lt _ (by decide)⟩ ⟨c % 512, Nat.mod_lt _ (by decide)⟩

theorem ix_eq (i : S512x512.Idx) {r c : ℕ} (hr : (i 0).val = r) (hc : (i 1).val = c) : ix r c = i := by
  subst hr hc
  rw [← Shape.pair_eta (d := ![512, 512]) i]
  unfold ix
  congr 1
  · exact Fin.ext (Nat.mod_eq_of_lt (lt2_0 i))
  · exact Fin.ext (Nat.mod_eq_of_lt (lt2_1 i))

/-- A number as a side. -/
def sd (n : ℕ) : Side := ⟨n % 2, Nat.mod_lt _ (by decide)⟩

theorem sd_val (σ : Side) : sd σ.val = σ := by revert σ; decide

section
variable (X : Dev nD → S512x512.Idx → F .f32)

/-- The sum of device `d`'s input and its first neighbour's. -/
def Pt (d : Dev nD) : S512x512.Idx → F .f32 := fun i => FloatOps.addf (X d i) (X (nbr (sd ((i 1).val / 256)) d) i)

/-- The finished sum of all four inputs. -/
def Tt : S512x512.Idx → F .f32 := fun i =>
  FloatOps.addf (Pt X (owner (sd ((i 1).val / 256)) (i 0).val) i)
    (Pt X (nbr (oth (sd ((i 1).val / 256))) (owner (sd ((i 1).val / 256)) (i 0).val)) i)

/-- What the first receive buffer of `c` holds: the first neighbour's input. -/
def B1 (c : Dev nD) : S2x256x256.Idx → F .f32 := fun i =>
  X (nbr (sd (i 0).val) c) (ix (r1 (sd (i 0).val) c + (i 1).val) (256 * (i 0).val + (i 2).val))

/-- What the second receive buffer of `c` holds: the second neighbour's two-device sums. -/
def B2 (c : Dev nD) : S2x128x256.Idx → F .f32 := fun i =>
  Pt X (nbr (oth (sd (i 0).val)) c) (ix (r2 (sd (i 0).val) c + (i 1).val) (256 * (i 0).val + (i 2).val))

theorem sd_div {σ : Side} {i : S512x512.Idx} (h0 : 256 * σ.val ≤ (i 1).val) (h1 : (i 1).val < 256 * σ.val + 256) :
    sd ((i 1).val / 256) = σ := by
  apply Fin.ext; show (i 1).val / 256 % 2 = σ.val
  have := σ.isLt; omega

theorem Pt_eq {σ : Side} {d : Dev nD} {i : S512x512.Idx} (h0 : 256 * σ.val ≤ (i 1).val) (h1 : (i 1).val < 256 * σ.val + 256) :
    Pt X d i = FloatOps.addf (X d i) (X (nbr σ d) i) := by
  unfold Pt; rw [sd_div h0 h1]

theorem Tt_eq {σ : Side} {c : Dev nD} {i : S512x512.Idx} (h0 : 256 * σ.val ≤ (i 1).val) (h1 : (i 1).val < 256 * σ.val + 256)
    (g0 : r2 σ c ≤ (i 0).val) (g1 : (i 0).val < r2 σ c + 128) :
    Tt X i = FloatOps.addf (Pt X c i) (Pt X (nbr (oth σ) c) i) := by
  unfold Tt; rw [sd_div h0 h1, owner_eq σ c _ g0 g1]

/-- An element of the first receive buffer, by the row and column it came from. -/
theorem B1_eq {σ : Side} {c : Dev nD} {j : S2x256x256.Idx} {i : S512x512.Idx} (h : (j 0).val = σ.val)
    (hr : (i 0).val = r1 σ c + (j 1).val) (hc : (i 1).val = 256 * σ.val + (j 2).val) : B1 X c j = X (nbr σ c) i := by
  unfold B1; rw [h, sd_val, ix_eq i hr hc]

theorem B2_eq {σ : Side} {c : Dev nD} {j : S2x128x256.Idx} {i : S512x512.Idx} (h : (j 0).val = σ.val)
    (hr : (i 0).val = r2 σ c + (j 1).val) (hc : (i 1).val = 256 * σ.val + (j 2).val) : B2 X c j = Pt X (nbr (oth σ) c) i := by
  unfold B2; rw [h, sd_val, ix_eq i hr hc]

end

/-! ## Coordinates of a piece's elements -/

section
variable {n : ℕ}

/-- The element `y` of a piece of a 512 × 512 buffer. -/
theorem emb2_0 (σ : Side) (R : ℕ) (inb) (y : (⟨2, ![n, 256]⟩ : Shape).Idx) :
    (((Rect.unit (s := S512x512) (o2 σ R) ![n, 256] inb).emb y) 0).val = R + (y 0).val := by
  show R + 1 * (y 0).val = _; omega
theorem emb2_1 (σ : Side) (R : ℕ) (inb) (y : (⟨2, ![n, 256]⟩ : Shape).Idx) :
    (((Rect.unit (s := S512x512) (o2 σ R) ![n, 256] inb).emb y) 1).val = 256 * σ.val + (y 1).val := by
  show 256 * σ.val + 1 * (y 1).val = _; omega
theorem y1_lt (y : (⟨2, ![n, 256]⟩ : Shape).Idx) : (y 1).val < 256 := (y 1).isLt
theorem y0_lt (y : (⟨2, ![n, 256]⟩ : Shape).Idx) : (y 0).val < n := (y 0).isLt

/-- A piece's element as an element of the receive buffer's slice. -/
theorem sq_eq (h : (⟨2, ![n, 256]⟩ : Shape).numel = (⟨3, ![1, n, 256]⟩ : Shape).numel) (y : (⟨2, ![n, 256]⟩ : Shape).Idx) :
    Shape.reshapeEquiv h y = (Fin.cons ⟨0, Nat.one_pos⟩ y : (⟨3, Matrix.vecCons 1 ![n, 256]⟩ : Shape).Idx) :=
  Shape.reshapeEquiv_cons_one h y

theorem emb3_0 (σ : Side) (R : ℕ) (inb) (h) (y : (⟨2, ![n, 256]⟩ : Shape).Idx) :
    (((Rect.unit (s := S2x256x256) (o3 σ R) ![1, n, 256] inb).emb (Shape.reshapeEquiv h y)) 0).val = σ.val := by
  rw [sq_eq]; show σ.val + 1 * 0 = _; omega
theorem emb3_1 (σ : Side) (R : ℕ) (inb) (h) (y : (⟨2, ![n, 256]⟩ : Shape).Idx) :
    (((Rect.unit (s := S2x256x256) (o3 σ R) ![1, n, 256] inb).emb (Shape.reshapeEquiv h y)) 1).val = R + (y 0).val := by
  rw [sq_eq]; show R + 1 * (y 0).val = _; omega
theorem emb3_2 (σ : Side) (R : ℕ) (inb) (h) (y : (⟨2, ![n, 256]⟩ : Shape).Idx) :
    (((Rect.unit (s := S2x256x256) (o3 σ R) ![1, n, 256] inb).emb (Shape.reshapeEquiv h y)) 2).val = (y 1).val := by
  rw [sq_eq]; show 0 + 1 * (y 1).val = _; omega
theorem emb4_0 (σ : Side) (R : ℕ) (inb) (h) (y : (⟨2, ![n, 256]⟩ : Shape).Idx) :
    (((Rect.unit (s := S2x128x256) (o3 σ R) ![1, n, 256] inb).emb (Shape.reshapeEquiv h y)) 0).val = σ.val := by
  rw [sq_eq]; show σ.val + 1 * 0 = _; omega
theorem emb4_1 (σ : Side) (R : ℕ) (inb) (h) (y : (⟨2, ![n, 256]⟩ : Shape).Idx) :
    (((Rect.unit (s := S2x128x256) (o3 σ R) ![1, n, 256] inb).emb (Shape.reshapeEquiv h y)) 1).val = R + (y 0).val := by
  rw [sq_eq]; show R + 1 * (y 0).val = _; omega
theorem emb4_2 (σ : Side) (R : ℕ) (inb) (h) (y : (⟨2, ![n, 256]⟩ : Shape).Idx) :
    (((Rect.unit (s := S2x128x256) (o3 σ R) ![1, n, 256] inb).emb (Shape.reshapeEquiv h y)) 2).val = (y 1).val := by
  rw [sq_eq]; show 0 + 1 * (y 1).val = _; omega

end

/-- A whole write through a view leaves, on the view's elements, any contents that hold there what was written. -/
theorem write_on {κ : Kind} {sp : Space} {s : Shape} {e : EltTy} (v : View sig κ sp s e) (f g : v.ty.Contents (Elt F)) (w : s.Idx → Elt F e)
    (h : ∀ y, g (v.emb y) = cast (congrArg (Elt F) v.elt_eq.symm) (w y)) :
    ∀ i ∈ v.set, v.write (Elt F) f w Finset.univ i = g i := by
  intro i hi
  obtain ⟨y, -, rfl⟩ := Finset.mem_map.mp hi
  rw [View.write_emb_of_mem (v := v) f w (Finset.mem_univ y), h]

end Cert.KernelIdealProof

end
-- ==== Proof.KernelIdeal.Protocol.lean ====
/-
The protocol: every semaphore is used in one round. The barrier semaphore takes one unit from each
neighbour, which hands over the places the transfers of that direction are to land on. A receive
semaphore takes the landing of its transfer, which hands over what has landed; a send semaphore
takes the release of the transfer's source.
-/
module

public import proofs.«01_k».proof.Proof.KernelIdeal.Pieces

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

abbrev UB : Type := URounds (GSem nD τ sig) Side
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Memory -/

section
variable (X : Dev nD → S512x512.Idx → F .f32)

/-- A piece of the staged input. -/
def xP (c : Dev nD) (σ : Side) (R n : ℕ) : sProp 𝕄 := (c : Thread nD τ).loc cc0_stg0_0 ↦[rows2 σ R n]{fullShare} X c
/-- A piece of the output at given contents. -/
def oP (c : Dev nD) (q : PosShare TreeShare) (σ : Side) (R n : ℕ) (f : S512x512.Idx → F .f32) : sProp 𝕄 :=
  (c : Thread nD τ).loc cc0_stg1_0 ↦[rows2 σ R n]{q} f
/-- A piece of the output at any contents. -/
def oA (c : Dev nD) (σ : Side) (R n : ℕ) : sProp 𝕄 := iprop(∃ f, oP c fullShare σ R n f)
/-- A piece of the first receive buffer, holding the first neighbour's input. -/
def b1P (c : Dev nD) (σ : Side) (R n : ℕ) : sProp 𝕄 := (c : Thread nD τ).loc cc0_scratch0 ↦[rows3 σ R n]{fullShare} B1 X c
def b1A (c : Dev nD) (σ : Side) (R n : ℕ) : sProp 𝕄 :=
  iprop(∃ f : S2x256x256.Idx → F .f32, (c : Thread nD τ).loc cc0_scratch0 ↦[rows3 σ R n]{fullShare} f)
/-- A piece of the second receive buffer, holding the second neighbour's two-device sums. -/
def b2P (c : Dev nD) (σ : Side) (R n : ℕ) : sProp 𝕄 := (c : Thread nD τ).loc cc0_scratch1 ↦[rows4 σ R n]{fullShare} B2 X c
def b2A (c : Dev nD) (σ : Side) (R n : ℕ) : sProp 𝕄 :=
  iprop(∃ f : S2x128x256.Idx → F .f32, (c : Thread nD τ).loc cc0_scratch1 ↦[rows4 σ R n]{fullShare} f)

instance (c : Dev nD) (σ : Side) (R n : ℕ) : BI.Storable (upEmb : UEmb _ 𝕄) (xP X c σ R n) := by unfold xP; infer_instance
omit [FloatOps F] in
instance (c : Dev nD) (q) (σ : Side) (R n : ℕ) (f) : BI.Storable (upEmb : UEmb _ 𝕄) (oP (F := F) c q σ R n f) := by unfold oP; infer_instance
omit [FloatOps F] in
instance (c : Dev nD) (σ : Side) (R n : ℕ) : BI.Storable (upEmb : UEmb _ 𝕄) (oA (F := F) c σ R n) := by unfold oA; infer_instance
instance (c : Dev nD) (σ : Side) (R n : ℕ) : BI.Storable (upEmb : UEmb _ 𝕄) (b1P X c σ R n) := by unfold b1P; infer_instance
omit [FloatOps F] in
instance (c : Dev nD) (σ : Side) (R n : ℕ) : BI.Storable (upEmb : UEmb _ 𝕄) (b1A (F := F) c σ R n) := by unfold b1A; infer_instance
instance (c : Dev nD) (σ : Side) (R n : ℕ) : BI.Storable (upEmb : UEmb _ 𝕄) (b2P X c σ R n) := by unfold b2P; infer_instance
omit [FloatOps F] in
instance (c : Dev nD) (σ : Side) (R n : ℕ) : BI.Storable (upEmb : UEmb _ 𝕄) (b2A (F := F) c σ R n) := by unfold b2A; infer_instance

/-! ## What the semaphores hand over -/

/-- The memory of device `d` a transfer lands on, as `d` gives it away before the transfers start. The
gather of the finished pieces lands on memory that comes with the second exchange instead. -/
def dstA (d : Dev nD) : Tr → sProp 𝕄
  | .inl p => b1A d p.1 (f1 p.1 d + 32 * p.2.val) 32
  | .inr (.inl σ) => b1A d σ (k1 σ d) 128
  | .inr (.inr (.inl p)) => b2A d p.1 (32 * p.2.val) 32
  | .inr (.inr (.inr (.inl p))) => iprop(emp)
  | .inr (.inr (.inr (.inr (.inl σ)))) => oA d σ (s1 σ d + k1 σ d) 128
  | .inr (.inr (.inr (.inr (.inr p)))) => oA d p.1 (s1 p.1 d + f1 p.1 d + 32 * p.2.val) 32

/-- The input memory of device `c` a transfer reads. -/
def srcX (c : Dev nD) : Tr → sProp 𝕄
  | .inl p => xP X c p.1 (s1 p.1 c + f1 p.1 c + 32 * p.2.val) 32
  | .inr (.inl σ) => xP X c σ (s1 σ c + k1 σ c) 128
  | _ => iprop(emp)

/-- What device `c` keeps of a landing. -/
def recvKeep (c : Dev nD) : Tr → sProp 𝕄
  | .inl p => b1P X c p.1 (f1 p.1 c + 32 * p.2.val) 32
  | .inr (.inl σ) => b1P X c σ (k1 σ c) 128
  | .inr (.inr (.inl p)) => b2P X c p.1 (32 * p.2.val) 32
  | .inr (.inr (.inr (.inl p))) => iprop(emp)
  | .inr (.inr (.inr (.inr (.inl σ)))) => oP c fullShare σ (s1 σ c + k1 σ c) 128 (Tt X)
  | .inr (.inr (.inr (.inr (.inr p)))) => oP c fullShare p.1 (s1 p.1 c + f1 p.1 c + 32 * p.2.val) 32 (Tt X)

/-- What device `c` uses of a landing for a transfer of its own: with the second exchange, the sender's
piece it was read from; with the gather of the finished pieces, the piece. -/
def recvMove (c : Dev nD) : Tr → sProp 𝕄
  | .inr (.inr (.inl p)) => oA (nbr (oth p.1) c) p.1 (r2 p.1 c + 32 * p.2.val) 32
  | .inr (.inr (.inr (.inl p))) => oP c fullShare p.1 (s2 p.1 c + 32 * p.2.val) 32 (Tt X)
  | _ => iprop(emp)

/-- What the release of a transfer's source hands back to device `c`. -/
def sendPay (c : Dev nD) : Tr → sProp 𝕄
  | .inl p => xP X c p.1 (s1 p.1 c + f1 p.1 c + 32 * p.2.val) 32
  | .inr (.inl σ) => xP X c σ (s1 σ c + k1 σ c) 128
  | .inr (.inr (.inl p)) => iprop(emp)
  | .inr (.inr (.inr (.inl p))) => oP c fullShare.left p.1 (r2 p.1 c + 32 * p.2.val) 32 (Tt X)
  | .inr (.inr (.inr (.inr (.inl σ)))) => oP c fullShare.right σ (r2 σ c) 128 (Tt X)
  | .inr (.inr (.inr (.inr (.inr p)))) => oP c fullShare p.1 (s2 p.1 c + 32 * p.2.val) 32 (Tt X)

def recvPay (c : Dev nD) (k : Tr) : sProp 𝕄 := iprop(recvKeep X c k ∗ recvMove X c k)

/-- What the neighbour across direction `δ` hands `c` with its barrier unit: the places `c`'s transfers
across `δ` land on. -/
def barPay (c : Dev nD) (δ : Side) : sProp 𝕄 := bigSep Finset.univ fun k : Tr => if dir k = δ then dstA (nbr δ c) k else iprop(emp)

omit [FloatOps F] in
instance (d : Dev nD) (k : Tr) : BI.Storable (upEmb : UEmb _ 𝕄) (dstA (F := F) d k) := by
  rcases k with p | σ | p | p | σ | p <;> unfold dstA <;> infer_instance
instance (c : Dev nD) (k : Tr) : BI.Storable (upEmb : UEmb _ 𝕄) (recvKeep X c k) := by
  rcases k with p | σ | p | p | σ | p <;> unfold recvKeep <;> infer_instance
instance (c : Dev nD) (k : Tr) : BI.Storable (upEmb : UEmb _ 𝕄) (recvMove X c k) := by
  rcases k with p | σ | p | p | σ | p <;> unfold recvMove <;> infer_instance
instance (c : Dev nD) (k : Tr) : BI.Storable (upEmb : UEmb _ 𝕄) (sendPay X c k) := by
  rcases k with p | σ | p | p | σ | p <;> unfold sendPay <;> infer_instance
instance (c : Dev nD) (k : Tr) : BI.Storable (upEmb : UEmb _ 𝕄) (recvPay X c k) := by unfold recvPay; infer_instance
omit [FloatOps F] in
instance (c : Dev nD) (δ : Side) : BI.Storable (upEmb : UEmb _ 𝕄) (barPay (F := F) c δ) := by
  unfold barPay
  have (k : Tr) : BI.Storable (upEmb : UEmb _ 𝕄) (if dir k = δ then dstA (F := F) (nbr δ c) k else iprop(emp)) := by split <;> infer_instance
  infer_instance

/-! ## The schedule -/

/-- The piece at a place of the order of pieces. -/
def pcOf (n : ℕ) : Pc := (⟨n % 2, Nat.mod_lt _ (by decide)⟩, ⟨n / 2 % 4, Nat.mod_lt _ (by decide)⟩)
/-- The transfer at a place of the order of transfers. -/
def trOf (n : ℕ) : Tr :=
  if n < 8 then tA (pcOf n) else if n < 10 then tB (sd (n - 8)) else if n < 18 then tC (pcOf (n - 10))
  else if n < 26 then tD (pcOf (n - 18)) else if n < 28 then tE (sd (n - 26)) else tG (pcOf (n - 28))

theorem trOf_idx (k : Tr) : trOf (idx k) = k := by revert k; decide

abbrev barCell (c : Dev nD) : GSem nD τ sig := ((c : Thread nD τ), .reg barS)
abbrev sendCell (c : Dev nD) (k : Tr) : GSem nD τ sig := ((c : Thread nD τ), .dma (sendSem k))
abbrev recvCell (c : Dev nD) (k : Tr) : GSem nD τ sig := ((c : Thread nD τ), .dma (recvSem k))

/-- One round per semaphore: two units on the barrier, one landing or release on a transfer's semaphore. -/
def Rd : Rounds.Schedule (GSem nD τ sig) Side 𝕄 where
  duties g r := if r = 0 ∧ g.1.2 = .tc then (match g.2 with
    | .reg _ => Finset.univ
    | .dma j => if j.val < 2 then ∅ else {0}) else ∅
  unitless _ := False
  amount g _ _ := match g.2 with
    | .reg _ => 1
    | .dma j => if j.val < 38 then amt (trOf (j.val - 2)) else amt (trOf (j.val - 38))
  payload g _ d := match g.2 with
    | .reg _ => barPay g.1.1 d
    | .dma j => if j.val < 38 then sendPay X g.1.1 (trOf (j.val - 2)) else recvPay X g.1.1 (trOf (j.val - 38))
  amount_pos g _ _ _ := by
    have h (k : Tr) : 0 < amt k := by unfold amt; split <;> decide
    rcases g with ⟨t, _ | j⟩
    · exact Nat.one_pos
    · dsimp only; split <;> exact h _

instance (g : GSem nD τ sig) (r : ℕ) (d : Side) : BI.Storable (upEmb : UEmb _ 𝕄) ((Rd X).payload g r d) := by
  rcases g with ⟨t, _ | j⟩
  · show BI.Storable upEmb (barPay t.1 d); infer_instance
  · show BI.Storable upEmb (if j.val < 38 then sendPay X t.1 (trOf (j.val - 2)) else recvPay X t.1 (trOf (j.val - 38)))
    split <;> infer_instance

section
variable (c : Dev nD) (k : Tr)

theorem sendSem_val : (sendSem k).val = 2 + idx k := rfl
theorem recvSem_val : (recvSem k).val = 38 + idx k := rfl

theorem duties_bar : (Rd X).duties (barCell c) 0 = Finset.univ := by dsimp only [Rd]; exact if_pos ⟨rfl, rfl⟩
theorem duties_send : (Rd X).duties (sendCell c k) 0 = {0} := by
  dsimp only [Rd]; rw [if_pos ⟨rfl, rfl⟩, if_neg (by rw [sendSem_val]; omega)]
theorem duties_recv : (Rd X).duties (recvCell c k) 0 = {0} := by
  dsimp only [Rd]; rw [if_pos ⟨rfl, rfl⟩, if_neg (by rw [recvSem_val]; omega)]
theorem duties_later (g : GSem nD τ sig) : ∀ r, 1 ≤ r → (Rd X).duties g r = ∅ :=
  fun r hr => by dsimp only [Rd]; rw [if_neg fun h => by omega]
theorem amount_bar (d : Side) : (Rd X).amount (barCell c) 0 d = 1 := rfl
theorem amount_send (d : Side) : (Rd X).amount (sendCell c k) 0 d = amt k := by
  have := idx_lt k
  dsimp only [Rd]; rw [if_pos (by rw [sendSem_val]; omega), sendSem_val, Nat.add_sub_cancel_left, trOf_idx]
theorem amount_recv (d : Side) : (Rd X).amount (recvCell c k) 0 d = amt k := by
  dsimp only [Rd]; rw [if_neg (by rw [recvSem_val]; omega), recvSem_val, Nat.add_sub_cancel_left, trOf_idx]
theorem payload_bar (d : Side) : (Rd X).payload (barCell c) 0 d = barPay c d := rfl
theorem payload_send (d : Side) : (Rd X).payload (sendCell c k) 0 d = sendPay X c k := by
  have := idx_lt k
  dsimp only [Rd]; rw [if_pos (by rw [sendSem_val]; omega), sendSem_val, Nat.add_sub_cancel_left, trOf_idx]
theorem payload_recv (d : Side) : (Rd X).payload (recvCell c k) 0 d = recvPay X c k := by
  dsimp only [Rd]; rw [if_neg (by rw [recvSem_val]; omega), recvSem_val, Nat.add_sub_cancel_left, trOf_idx]
theorem expect_bar : (Rd X).expect (barCell c) 0 = 2 := by
  unfold Schedule.expect Schedule.amountOf; rw [duties_bar]; rfl
theorem expect_send : (Rd X).expect (sendCell c k) 0 = amt k := by
  unfold Schedule.expect Schedule.amountOf; rw [duties_send, Finset.sum_singleton, amount_send]
theorem expect_recv : (Rd X).expect (recvCell c k) 0 = amt k := by
  unfold Schedule.expect Schedule.amountOf; rw [duties_recv, Finset.sum_singleton, amount_recv]
theorem rest_bar : bigSep ((Rd X).duties (barCell c) 0 \ ∅) (fun d => (Rd X).payload (barCell c) 0 d) = iprop(barPay (F := F) c 0 ∗ barPay c 1) := by
  rw [Finset.sdiff_empty, duties_bar, bigSep_univ_eq_bigSepL [(0 : Side), 1] (by decide) (by decide), bigSepL_cons_cons, bigSepL_singleton]
  rfl
theorem rest_send : bigSep ((Rd X).duties (sendCell c k) 0 \ ∅) (fun d => (Rd X).payload (sendCell c k) 0 d) = sendPay X c k := by
  rw [Finset.sdiff_empty, duties_send, bigSep_singleton, payload_send]
theorem rest_recv : bigSep ((Rd X).duties (recvCell c k) 0 \ ∅) (fun d => (Rd X).payload (recvCell c k) 0 d) = recvPay X c k := by
  rw [Finset.sdiff_empty, duties_recv, bigSep_singleton, payload_recv]

end
end

/-! ## What is owed, and the levels -/

/-- The landings device `c` still owes once it has started `s` transfers. -/
def Ow (s : ℕ) (c : Dev nD) : CellTallies nD τ sig Unit :=
  ∑ k ∈ (Finset.univ : Finset Tr).filter (fun k => s ≤ idx k), tallyAt (recvCell (tgt c k) k) () (amt k)

/-- What device `c` owes at its start: every landing and a barrier unit to each neighbour. -/
def O₁ (c : Dev nD) : CellTallies nD τ sig Unit := Ow 0 c + tallyAt (barCell (nbr 1 c)) () 1
def O₀ (c : Dev nD) : CellTallies nD τ sig Unit := O₁ c + tallyAt (barCell (nbr 0 c)) () 1

theorem Ow_step (c : Dev nD) (k : Tr) : Ow (idx k) c = Ow (idx k + 1) c + tallyAt (recvCell (tgt c k) k) () (amt k) := by
  unfold Ow
  have e : (Finset.univ : Finset Tr).filter (fun l => idx k ≤ idx l)
      = insert k ((Finset.univ : Finset Tr).filter (fun l => idx k + 1 ≤ idx l)) := by
    ext l
    simp only [Finset.mem_filter, Finset.mem_univ, _root_.true_and, Finset.mem_insert]
    constructor
    · intro h
      by_cases hl : l = k
      · exact .inl hl
      · have := idx_ne hl; exact .inr (by omega)
    · rintro (rfl | h) <;> omega
  rw [e, Finset.sum_insert (by simp), add_comm]

theorem Ow_end (c : Dev nD) : Ow 36 c = 0 := by
  unfold Ow
  rw [Finset.filter_false_of_mem fun k _ => by have := idx_lt k; omega, Finset.sum_empty]

def L (g : GSem nD τ sig) : Finset Unit := if g.1.2 = .tc then {()} else ∅
/-- The barrier at level 1, the receive semaphores above it in the order of their transfers. -/
def lv (g : GSem nD τ sig) (_ : Unit) : ℕ := match g.2 with
  | .reg _ => 1
  | .dma j => if j.val < 38 then 0 else 2 + (j.val - 38)

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Tr) : lv (recvCell c k) () = 2 + idx k := by
  dsimp only [lv]; rw [if_neg (by rw [recvSem_val]; omega), recvSem_val, Nat.add_sub_cancel_left]
theorem lv_send (c : Dev nD) (k : Tr) : lv (sendCell c k) () = 0 := by
  have := idx_lt k
  dsimp only [lv]; rw [if_pos (by rw [sendSem_val]; omega)]

theorem Ow_pos {s : ℕ} {c : Dev nD} {g : GSem nD τ sig} {u : Unit} (h : 0 < Ow s c g u) : ∃ k, s ≤ idx k ∧ g = recvCell (tgt c k) k := by
  unfold Ow at h
  rw [Finset.sum_apply, Finsupp.finset_sum_apply] at h
  obtain ⟨k, hk, hp⟩ := Finset.exists_ne_zero_of_sum_ne_zero (Nat.pos_iff_ne_zero.mp h)
  refine ⟨k, (Finset.mem_filter.mp hk).2, ?_⟩
  by_contra hn
  rw [tallyAt_apply, if_neg (fun h' => hn h'.1)] at hp
  exact hp rfl

theorem O₀_pos {c : Dev nD} {g : GSem nD τ sig} {u : Unit} (h : 0 < O₀ c g u) :
    (∃ k, g = recvCell (tgt c k) k) ∨ g = barCell (nbr 1 c) ∨ g = barCell (nbr 0 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨k, -, hk⟩ := Ow_pos (s := 0) (c := c) (g := g) (u := u) (by omega)
  exact hn.1 ⟨k, hk⟩

omit [FloatOps F] in
/-- A wait at a level below what is owed. -/
theorem mayWait_Ow (s n : ℕ) (c : Dev nD) (sm : SemLoc sig) (h : lv ((c : Thread nD τ), sm) () = n) (hn : n < 2 + s) :
    (levAts L lv : sProp 𝕄) ⊢ MayWait (c : Thread nD τ) sm () (Ow s c) :=
  MayOwe.of_cut (L := L) (lev := lv) n (fun p hp => by rw [Finset.mem_singleton.mp hp, L_tc]; exact Finset.mem_singleton_self _)
    (fun g u hg => by obtain ⟨k, -, rfl⟩ := Ow_pos hg; rw [L_tc]; exact Finset.mem_singleton_self _)
    (fun p hp => by rw [Finset.mem_singleton.mp hp]; exact h.le)
    (fun g u hg => by obtain ⟨k, hk, rfl⟩ := Ow_pos hg; rw [lv_recv]; omega)

omit [FloatOps F] in
/-- The staging waits, at level 0. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> (rw [L_tc]; exact Finset.mem_singleton_self _))
      (fun p hp => by rw [Finset.mem_singleton.mp hp]; dsimp only [lv]; rw [if_pos (by omega)])
      (fun g u hg => by
        rcases O₀_pos hg with ⟨k, rfl⟩ | rfl | rfl
        · rw [lv_recv]; omega
        · exact Nat.one_pos
        · exact Nat.one_pos)
  · rw [MayWait_zero]; iintro -; iempintro

end Cert.KernelIdealProof

end
-- ==== Proof.KernelIdeal.State.lean ====
/-
The kernel's state between two operations, as what device `c` holds after `s` transfers started,
`w` landings taken, `j` sums stored and `z` sources released, and the rules of one transfer, one
landing and one release over it.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

/-! ## Families some of whose members are held -/

section
variable {ι : Type} [Fintype ι] [DecidableEq ι]

open Classical in
/-- The members of a family that satisfy a condition. -/
def live (A : ι → sProp 𝕄) (S : ι → Prop) : sProp 𝕄 := bigSep Finset.univ fun k => if S k then A k else iprop(emp)

omit [FloatOps F] in
theorem live_same {A : ι → sProp 𝕄} {S S' : ι → Prop} (h : ∀ k, S k ↔ S' k) : live A S ⊢ live A S' := by
  have e : S = S' := funext fun k => propext (h k)
  rw [e]

omit [FloatOps F] in
theorem live_take {A : ι → sProp 𝕄} {S S' : ι → Prop} (k : ι) (hk : S k) (h : ∀ l, S' l ↔ (S l ∧ l ≠ k)) :
    live A S ⊢ iprop(A k ∗ live A S') := by
  classical
  unfold live
  refine (bigSep_univ_update (Ψ := fun l => if S' l then A l else iprop(emp)) k ?_).trans ?_
  · intro l hl
    simp only [h l, hl, ne_eq, not_false_eq_true, _root_.and_true]
  · rw [if_pos hk, if_neg (by rw [h k]; exact fun h' => h'.2 rfl)]
    iintro ⟨HA, HB⟩
    isplitl [HA]; · iexact HA
    iapply HB; iempintro

omit [FloatOps F] in
theorem live_put {A : ι → sProp 𝕄} {S S' : ι → Prop} (k : ι) (hk : ¬ S k) (h : ∀ l, S' l ↔ (S l ∨ l = k)) :
    iprop(A k ∗ live A S) ⊢ live A S' := by
  classical
  unfold live
  iintro ⟨HA, HB⟩
  ihave HB' := (bigSep_univ_update (Φ := fun l => if S l then A l else iprop(emp)) (Ψ := fun l => if S' l then A l else iprop(emp)) k
    (fun l hl => by simp only [h l, hl, _root_.or_false])) $$ HB
  icases HB' with ⟨-, HB⟩
  iapply HB
  rw [if_pos ((h k).mpr (.inr rfl))]
  iexact HA

omit [FloatOps F] in
theorem live_acc {A : ι → sProp 𝕄} {S : ι → Prop} (k : ι) (hk : S k) :
    live A S ⊢ iprop(A k ∗ (A k -∗ live A S)) := by
  classical
  unfold live
  refine (bigSep_univ_update (Ψ := fun l => if S l then A l else iprop(emp)) k (fun _ _ => rfl)).trans ?_
  rw [if_pos hk]

omit [FloatOps F] in
theorem live_all {A : ι → sProp 𝕄} {S : ι → Prop} (h : ∀ k, S k) : live A S = bigSep Finset.univ A := by
  classical
  unfold live
  exact bigSep_congr fun k _ => if_pos (h k)

omit [FloatOps F] in
theorem live_none {A : ι → sProp 𝕄} {S : ι → Prop} (h : ∀ k, ¬ S k) : live A S = iprop(emp) := by
  classical
  unfold live
  rw [bigSep_congr (Ψ := fun _ => iprop(emp)) fun k _ => if_neg (h k)]
  exact bigSep_emp_const _

end

theorem ne_idx {k l : Tr} : l ≠ k ↔ idx l ≠ idx k := ⟨fun h e => h (idx_inj e), fun h e => h (congrArg idx e)⟩
theorem eq_idx {k l : Tr} : l = k ↔ idx l = idx k := ⟨congrArg idx, fun e => idx_inj e⟩
theorem ne_ord {k l : Pc} : l ≠ k ↔ ord l ≠ ord k := ⟨fun h e => h (ord_inj e), fun h e => h (congrArg ord e)⟩
theorem eq_ord {k l : Pc} : l = k ↔ ord l = ord k := ⟨congrArg ord, fun e => ord_inj e⟩

/-! ## The state -/

/-- A device's semaphores: the barrier, a send and a receive semaphore per transfer. -/
abbrev Cl : Type := Unit ⊕ Tr ⊕ Tr
def csem : Cl → SemLoc sig
  | .inl _ => .reg barS
  | .inr (.inl k) => .dma (sendSem k)
  | .inr (.inr k) => .dma (recvSem k)
def kcell (ck : Dev nD × Cl) : GSem nD τ sig := ((ck.1 : Thread nD τ), csem ck.2)

section
variable (X : Dev nD → S512x512.Idx → F .f32) (K : Dev nD × Cl → ℕ) (c : Dev nD)

/-- The invariants of all semaphores, and that their round is reached. -/
def recs : sProp 𝕄 := bigSep Finset.univ fun ck : Dev nD × Cl => iprop(cellInv ER (Rd X) (K ck) (kcell ck) ∗ reached ER (kcell ck) 0)

instance : BI.Persistent (recs X K) := by unfold recs; infer_instance

theorem recs_at (ck : Dev nD × Cl) : recs X K ⊢ iprop(cellInv ER (Rd X) (K ck) (kcell ck) ∗ reached ER (kcell ck) 0) :=
  bigSep_elim (Φ := fun ck : Dev nD × Cl => iprop(cellInv ER (Rd X) (K ck) (kcell ck) ∗ reached ER (kcell ck) 0)) (Finset.mem_univ ck)

theorem recs_bar : recs X K ⊢ iprop(cellInv ER (Rd X) (K (c, .inl ())) (barCell c) ∗ reached ER (barCell c) 0) :=
  recs_at X K (c, .inl ())
theorem recs_send (k : Tr) : recs X K ⊢ iprop(cellInv ER (Rd X) (K (c, .inr (.inl k))) (sendCell c k) ∗ reached ER (sendCell c k) 0) :=
  recs_at X K (c, .inr (.inl k))
theorem recs_recv (k : Tr) : recs X K ⊢ iprop(cellInv ER (Rd X) (K (c, .inr (.inr k))) (recvCell c k) ∗ reached ER (recvCell c k) 0) :=
  recs_at X K (c, .inr (.inr k))

def owesE (s : ℕ) : sProp 𝕄 := iprop(∃ W, owes (c : Thread nD τ) (Ow s c) W)

/-- What a transfer needs besides what the kernel computes or receives. -/
def sendIn (k : Tr) : sProp 𝕄 :=
  iprop(dutyTok ER (sendCell c k) 0 0 ∗ dutyTok ER (recvCell (tgt c k) k) 0 0 ∗ dstA (tgt c k) k ∗ srcX X c k)
/-- What waiting for a landing needs. -/
def recvIn (k : Tr) : sProp 𝕄 := iprop(atPos ER (recvCell c k) 0 ∅ 0 ∗ cred (tallyAt (recvCell c k) () (amt k)))
/-- What is held from a landing on. -/
def recvOut (k : Tr) : sProp 𝕄 := iprop(semVal (recvCell c k) 0 ∗ recvKeep X c k)
def sendAt (k : Tr) : sProp 𝕄 := atPos ER (sendCell c k) 0 ∅ 0
def sendCr (k : Tr) : sProp 𝕄 := cred (tallyAt (sendCell c k) () (amt k))
/-- What is held from the release of a source on. -/
def sendOut (k : Tr) : sProp 𝕄 := iprop(semVal (sendCell c k) 0 ∗ sendPay X c k)

/-- The input pieces and the output pieces that are in use in between: the pieces not yet summed, the
two-device sums, the places the finished pieces go to, the finished pieces received, those computed,
and the half kept of each while the other half is read. -/
def xs (p : Pc) : sProp 𝕄 := xP X c p.1 (s2 p.1 c + 32 * p.2.val) 32
def xr (p : Pc) : sProp 𝕄 := xP X c p.1 (r2 p.1 c + 32 * p.2.val) 32
def osA (p : Pc) : sProp 𝕄 := oA c p.1 (s2 p.1 c + 32 * p.2.val) 32
def orA (p : Pc) : sProp 𝕄 := oA c p.1 (r2 p.1 c + 32 * p.2.val) 32
def osP (p : Pc) : sProp 𝕄 := oP c fullShare p.1 (s2 p.1 c + 32 * p.2.val) 32 (Pt X c)
def onA (p : Pc) : sProp 𝕄 := oA (nbr (oth p.1) c) p.1 (r2 p.1 c + 32 * p.2.val) 32
def osT (p : Pc) : sProp 𝕄 := oP c fullShare p.1 (s2 p.1 c + 32 * p.2.val) 32 (Tt X)
def orT (p : Pc) : sProp 𝕄 := oP c fullShare p.1 (r2 p.1 c + 32 * p.2.val) 32 (Tt X)
def orH (p : Pc) : sProp 𝕄 := oP c fullShare.right p.1 (r2 p.1 c + 32 * p.2.val) 32 (Tt X)

def Mix (s w j : ℕ) : sProp 𝕄 :=
  iprop(live (osA c) (fun p => j ≤ ord p) ∗ live (orA c) (fun p => j ≤ 8 + ord p)
    ∗ live (osP X c) (fun p => ord p < j ∧ s ≤ 10 + ord p)
    ∗ live (onA c) (fun p => 10 + ord p < w ∧ s ≤ 18 + ord p)
    ∗ live (osT X c) (fun p => 18 + ord p < w ∧ s ≤ 28 + ord p)
    ∗ live (orT X c) (fun p => 8 + ord p < j ∧ s ≤ 18 + ord p)
    ∗ live (orH X c) (fun p => 18 + ord p < s ∧ s ≤ 26 + p.1.val))

/-- The state after `s` transfers started, `w` landings taken, `j` sums stored, `z` sources released. -/
def St (s w j z : ℕ) : sProp 𝕄 :=
  iprop(recs X K ∗ levAts L lv ∗ owesE c s
    ∗ live (sendIn X c) (fun k => s ≤ idx k)
    ∗ live (recvIn c) (fun k => w ≤ idx k) ∗ live (recvOut X c) (fun k => idx k < w)
    ∗ live (sendAt c) (fun k => z ≤ idx k) ∗ live (sendCr c) (fun k => z ≤ idx k ∧ idx k < s) ∗ live (sendOut X c) (fun k => idx k < z)
    ∗ live (xs X c) (fun _ => True) ∗ live (xr X c) (fun _ => True)
    ∗ Mix X c s w j)

theorem Mix_same {s w j s' w' j' : ℕ}
    (h : ∀ p, ((j ≤ ord p ↔ j' ≤ ord p) ∧ (j ≤ 8 + ord p ↔ j' ≤ 8 + ord p))
      ∧ ((ord p < j ∧ s ≤ 10 + ord p) ↔ (ord p < j' ∧ s' ≤ 10 + ord p))
      ∧ ((10 + ord p < w ∧ s ≤ 18 + ord p) ↔ (10 + ord p < w' ∧ s' ≤ 18 + ord p))
      ∧ ((18 + ord p < w ∧ s ≤ 28 + ord p) ↔ (18 + ord p < w' ∧ s' ≤ 28 + ord p))
      ∧ ((8 + ord p < j ∧ s ≤ 18 + ord p) ↔ (8 + ord p < j' ∧ s' ≤ 18 + ord p))
      ∧ ((18 + ord p < s ∧ s ≤ 26 + p.1.val) ↔ (18 + ord p < s' ∧ s' ≤ 26 + p.1.val))) :
    Mix X c s w j ⊢ Mix X c s' w' j' := by
  unfold Mix
  iintro ⟨H1, H2, H3, H4, H5, H6, H7⟩
  isplitl [H1]; · iapply (live_same fun p => (h p).1.1) $$ H1
  isplitl [H2]; · iapply (live_same fun p => (h p).1.2) $$ H2
  isplitl [H3]; · iapply (live_same fun p => (h p).2.1) $$ H3
  isplitl [H4]; · iapply (live_same fun p => (h p).2.2.1) $$ H4
  isplitl [H5]; · iapply (live_same fun p => (h p).2.2.2.1) $$ H5
  isplitl [H6]; · iapply (live_same fun p => (h p).2.2.2.2.1) $$ H6
  iapply (live_same fun p => (h p).2.2.2.2.2) $$ H7

/-! ## One transfer -/

section

/-- Starting a transfer whose source comes back when it is released. -/
theorem step_send {α : Type} {Kt : α → sProp 𝕄} {kk : PUnit → Prog (TpuEff nD τ sig (Elt F) Λ₀ .tc) α}
    {sp sp' : Space} {s : Shape} {e : EltTy} (k : Tr) {n : Dev nD} (hn : n = tgt c k) {sS sR : DmaSem sig}
    (eS : sS = sendSem k) (eR : sR = recvSem k)
    {src : Memref sig .tc sp s e} {dst : Memref sig .tc sp' s e} {hsc : dst.view.ref.isScScratch = false}
    {hsrc : src.view.WordExact} {hdst : dst.view.WordExact}
    {hsem : DmaTarget.Typed sp (.dma sR) (.remote (Dev.tc n : Thread nD τ) dst (.dma sS) hsc)}
    (q : PosShare TreeShare) (fs : Buf (Elt F) (src.view.loc (c : Thread nD τ)))
    (hN : dst.view.dmaCredit = amt k) {w j z : ℕ} (hz : z ≤ idx k) {E : sProp 𝕄}
    (hM : Mix X c (idx k) w j ⊢ iprop(E ∗ Mix X c (idx k + 1) w j))
    (hE : iprop(E ∗ srcX X c k ∗ dstA (tgt c k) k)
      ⊢ iprop((src.view.loc (c : Thread nD τ) ↦[src.view.set]{q} fs)
          ∗ ∃ fd, (dst.view.loc (tgt c k : Thread nD τ) ↦[dst.view.set]{fullShare} fd)))
    (h1 : (src.view.loc (c : Thread nD τ) ↦[src.view.set]{q} fs) ⊢ sendPay X c k)
    (h2 : ∀ fd, (dst.view.loc (tgt c k : Thread nD τ) ↦[dst.view.set]{fullShare} (dst.view.write (Elt F) fd (src.view.read (Elt F) fs) Finset.univ))
      ⊢ recvPay X (tgt c k) k) :
    iprop(St X K c (idx k) w j z ∗ (St X K c (idx k + 1) w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma src (.remote (Dev.tc n : Thread nD τ) dst (.dma sS) hsc) (.dma sR) hsrc hdst hsem) kk) Kt := by
  subst hn eS eR
  unfold St
  iintro ⟨⟨#HR, #HL, HO, HSI, HRI, HRO, HSA, HSC, HSO, Hxs, Hxr, HM⟩, Hk⟩
  ihave HSI := (live_take k (S := fun l => idx k ≤ idx l) (Nat.le_refl _) (S' := fun l => idx k + 1 ≤ idx l) (fun l => by beta_reduce; rw [ne_idx]; omega)) $$ HSI
  icases HSI with ⟨HI, HSI⟩
  unfold sendIn
  icases HI with ⟨HtS, HtR, Hdst, Hsrc⟩
  ihave HM := hM $$ HM
  icases HM with ⟨HE, HM⟩
  ihave HP := hE $$ [HE Hsrc Hdst]
  · isplitl [HE]; · iexact HE
    isplitl [Hsrc] <;> iassumption
  icases HP with ⟨Hsrc, ⟨%fd, Hdst⟩⟩
  unfold owesE
  icases HO with ⟨%W, HO⟩
  ihave HcS := (recs_send X K c k) $$ HR
  icases HcS with ⟨#HcS, #HrS⟩
  ihave HcR := (recs_recv X K (tgt c k) k) $$ HR
  icases HcR with ⟨#HcR, #HrR⟩
  iapply (Rounds.wp_send_pointsTo 𝒱₀ ER (Rd X) (c : Thread nD τ) none (κ₁ := K (c, .inr (.inl k))) (κ₂ := K (tgt c k, .inr (.inr k)))
    (r₁ := 0) (r₂ := 0) (d₁ := 0) (d₂ := 0) (fd := fd)
    (by rw [duties_send]; exact Finset.mem_singleton_self _) (by rw [duties_recv]; exact Finset.mem_singleton_self _)
    () () (amt k) (show dst.view.amount (.dma (recvSem k)) = amt k from hN) (amount_send X c k 0) (amount_recv X (tgt c k) k 0) (Ow (idx k + 1) c) (Ow_step c k) (W := W)
    (by rw [payload_send]; exact h1) (by rw [payload_recv]; exact h2 fd)) $$ [HO HtS HtR Hsrc Hdst]
  · isplitr; · iexact HcS
    isplitr; · iexact HcR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hcr, HO⟩
  iapply Hk
  isplitr; · iexact HR
  isplitr; · iexact HL
  isplitl [HO]; · iexists W; iexact HO
  isplitl [HSI]; · iexact HSI
  isplitl [HRI]; · iexact HRI
  isplitl [HRO]; · iexact HRO
  isplitl [HSA]; · iexact HSA
  isplitl [HSC Hcr]
  · iapply (live_put k (S := fun l => z ≤ idx l ∧ idx l < idx k) (S' := fun l => z ≤ idx l ∧ idx l < idx k + 1) (fun h => Nat.lt_irrefl _ h.2) (fun l => by beta_reduce; rw [eq_idx]; omega))
    isplitl [Hcr]
    · unfold sendCr; iexact Hcr
    · iexact HSC
  isplitl [HSO]; · iexact HSO
  isplitl [Hxs]; · iexact Hxs
  isplitl [Hxr]; · iexact Hxr
  iexact HM

/-- Starting a transfer whose source goes over with the landing. -/
theorem step_send_landing {α : Type} {Kt : α → sProp 𝕄} {kk : PUnit → Prog (TpuEff nD τ sig (Elt F) Λ₀ .tc) α}
    {sp sp' : Space} {s : Shape} {e : EltTy} (k : Tr) {n : Dev nD} (hn : n = tgt c k) {sS sR : DmaSem sig}
    (eS : sS = sendSem k) (eR : sR = recvSem k)
    {src : Memref sig .tc sp s e} {dst : Memref sig .tc sp' s e} {hsc : dst.view.ref.isScScratch = false}
    {hsrc : src.view.WordExact} {hdst : dst.view.WordExact}
    {hsem : DmaTarget.Typed sp (.dma sR) (.remote (Dev.tc n : Thread nD τ) dst (.dma sS) hsc)}
    (q : PosShare TreeShare) (fs : Buf (Elt F) (src.view.loc (c : Thread nD τ)))
    (hN : dst.view.dmaCredit = amt k) {w j z : ℕ} (hz : z ≤ idx k) {E : sProp 𝕄}
    (hM : Mix X c (idx k) w j ⊢ iprop(E ∗ Mix X c (idx k + 1) w j))
    (hE : iprop(E ∗ srcX X c k ∗ dstA (tgt c k) k)
      ⊢ iprop((src.view.loc (c : Thread nD τ) ↦[src.view.set]{q} fs)
          ∗ ∃ fd, (dst.view.loc (tgt c k : Thread nD τ) ↦[dst.view.set]{fullShare} fd)))
    (h1 : (emp : sProp 𝕄) ⊢ sendPay X c k)
    (h2 : ∀ fd, iprop((dst.view.loc (tgt c k : Thread nD τ) ↦[dst.view.set]{fullShare} (dst.view.write (Elt F) fd (src.view.read (Elt F) fs) Finset.univ))
        ∗ (src.view.loc (c : Thread nD τ) ↦[src.view.set]{q} fs))
      ⊢ recvPay X (tgt c k) k) :
    iprop(St X K c (idx k) w j z ∗ (St X K c (idx k + 1) w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma src (.remote (Dev.tc n : Thread nD τ) dst (.dma sS) hsc) (.dma sR) hsrc hdst hsem) kk) Kt := by
  subst hn eS eR
  unfold St
  iintro ⟨⟨#HR, #HL, HO, HSI, HRI, HRO, HSA, HSC, HSO, Hxs, Hxr, HM⟩, Hk⟩
  ihave HSI := (live_take k (S := fun l => idx k ≤ idx l) (Nat.le_refl _) (S' := fun l => idx k + 1 ≤ idx l) (fun l => by beta_reduce; rw [ne_idx]; omega)) $$ HSI
  icases HSI with ⟨HI, HSI⟩
  unfold sendIn
  icases HI with ⟨HtS, HtR, Hdst, Hsrc⟩
  ihave HM := hM $$ HM
  icases HM with ⟨HE, HM⟩
  ihave HP := hE $$ [HE Hsrc Hdst]
  · isplitl [HE]; · iexact HE
    isplitl [Hsrc] <;> iassumption
  icases HP with ⟨Hsrc, ⟨%fd, Hdst⟩⟩
  unfold owesE
  icases HO with ⟨%W, HO⟩
  ihave HcS := (recs_send X K c k) $$ HR
  icases HcS with ⟨#HcS, #HrS⟩
  ihave HcR := (recs_recv X K (tgt c k) k) $$ HR
  icases HcR with ⟨#HcR, #HrR⟩
  iapply (Rounds.wp_send_landing_pointsTo 𝒱₀ ER (Rd X) (c : Thread nD τ) none (κ₁ := K (c, .inr (.inl k))) (κ₂ := K (tgt c k, .inr (.inr k)))
    (r₁ := 0) (r₂ := 0) (d₁ := 0) (d₂ := 0) (fd := fd)
    (by rw [duties_send]; exact Finset.mem_singleton_self _) (by rw [duties_recv]; exact Finset.mem_singleton_self _)
    () () (amt k) (show dst.view.amount (.dma (recvSem k)) = amt k from hN) (amount_send X c k 0) (amount_recv X (tgt c k) k 0) (Ow (idx k + 1) c) (Ow_step c k) (W := W)
    (by rw [payload_send]; exact h1) (by rw [payload_recv]; exact h2 fd)) $$ [HO HtS HtR Hsrc Hdst]
  · isplitr; · iexact HcS
    isplitr; · iexact HcR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hcr, HO⟩
  iapply Hk
  isplitr; · iexact HR
  isplitr; · iexact HL
  isplitl [HO]; · iexists W; iexact HO
  isplitl [HSI]; · iexact HSI
  isplitl [HRI]; · iexact HRI
  isplitl [HRO]; · iexact HRO
  isplitl [HSA]; · iexact HSA
  isplitl [HSC Hcr]
  · iapply (live_put k (S := fun l => z ≤ idx l ∧ idx l < idx k) (S' := fun l => z ≤ idx l ∧ idx l < idx k + 1) (fun h => Nat.lt_irrefl _ h.2) (fun l => by beta_reduce; rw [eq_idx]; omega))
    isplitl [Hcr]
    · unfold sendCr; iexact Hcr
    · iexact HSC
  isplitl [HSO]; · iexact HSO
  isplitl [Hxs]; · iexact Hxs
  isplitl [Hxr]; · iexact Hxr
  iexact HM

/-! ## One landing, one release -/

/-- Waiting for a landing. -/
theorem step_recv {α : Type} {Kt : α → sProp 𝕄} {kk : PUnit → Prog (TpuEff nD τ sig (Elt F) Λ₀ .tc) α}
    {sp sp' : Space} {s' : Shape} {e' : EltTy} {sd : Shape} {ed : EltTy} (k : Tr) {sR : DmaSem sig} (eR : sR = recvSem k)
    {src : Memref sig .tc sp s' e'} {dst : Memref sig .tc sp' sd ed} {hsrc : src.view.WordExact} {hdst : dst.view.WordExact}
    (hN : dst.view.dmaCredit = amt k) {s j z : ℕ} (hs : idx k < s)
    (hM : iprop(recvMove X c k ∗ Mix X c s (idx k) j) ⊢ Mix X c s (idx k + 1) j) :
    iprop(St X K c s (idx k) j z ∗ (St X K c s (idx k + 1) j z -∗ wp frame (wpE (defs₀ (F := F)) 𝒱₀ (c : Thread nD τ) none) Set.univ (kk ⟨⟩) Kt))
      ⊢ wp frame (wpE (defs₀ (F := F)) 𝒱₀ (c : Thread nD τ) none) Set.univ (.op (.waitDma2 sR src dst hsrc hdst) kk) Kt := by
  subst eR
  unfold St
  iintro ⟨⟨#HR, #HL, HO, HSI, HRI, HRO, HSA, HSC, HSO, Hxs, Hxr, HM⟩, Hk⟩
  ihave HRI := (live_take k (S := fun l => idx k ≤ idx l) (Nat.le_refl _) (S' := fun l => idx k + 1 ≤ idx l) (fun l => by beta_reduce; rw [ne_idx]; omega)) $$ HRI
  icases HRI with ⟨HI, HRI⟩
  unfold recvIn
  icases HI with ⟨Hat, Hcr⟩
  unfold owesE
  icases HO with ⟨%W, HO⟩
  ihave HcR := (recs_recv X K c k) $$ HR
  icases HcR with ⟨#HcR, #HrR⟩
  iapply (Rounds.wp_wait_rest_token 𝒱₀ ER (Rd X) (c : Thread nD τ) none (κ := K (c, .inr (.inr k)))
      (wpE_waitDma2_eq 𝒱₀ (c : Thread nD τ) none Set.univ) (Set.mem_univ _) () (O := Ow s c) (W := W) (R := 0) (m := 0) (T := ∅)
      (by rw [Nat.zero_add, expect_recv]; exact hN)) $$ [Hcr HO Hat]
  · isplitr; · iexact HcR
    isplitl [Hcr]; · rw [hN]; iexact Hcr
    isplitl [HO]; · iexact HO
    isplitr; · iapply (mayWait_Ow s (2 + idx k) c (.dma (recvSem k)) (lv_recv c k) (by omega)); iexact HL
    iexact Hat
  iintro ⟨HO, Hat, -, Hpay⟩
  ihave Hpay := (Entails.of_eq (rest_recv X c k)) $$ Hpay
  unfold recvPay
  icases Hpay with ⟨Hkeep, Hmove⟩
  imod (Rounds.cell_close ER (Rd X) (Set.mem_univ (K (c, .inr (.inr k)))) (fun h => h) (R := 0 + 1) (duties_later X (recvCell c k))) $$ [Hat] with Hz
  · isplitr; · iexact HcR
    iexact Hat
  iapply Hk
  isplitr; · iexact HR
  isplitr; · iexact HL
  isplitl [HO]; · iexists _; iexact HO
  isplitl [HSI]; · iexact HSI
  isplitl [HRI]; · iexact HRI
  isplitl [HRO Hz Hkeep]
  · iapply (live_put k (S := fun l => idx l < idx k) (S' := fun l => idx l < idx k + 1) (fun h => Nat.lt_irrefl _ h) (fun l => by beta_reduce; rw [eq_idx]; omega))
    isplitl [Hz Hkeep]
    · unfold recvOut; isplitl [Hz] <;> iassumption
    · iexact HRO
  isplitl [HSA]; · iexact HSA
  isplitl [HSC]; · iexact HSC
  isplitl [HSO]; · iexact HSO
  isplitl [Hxs]; · iexact Hxs
  isplitl [Hxr]; · iexact Hxr
  iapply hM
  isplitl [Hmove] <;> iassumption

/-- Waiting for the release of a transfer's source. -/
theorem step_done {α : Type} {Kt : α → sProp 𝕄} {kk : PUnit → Prog (TpuEff nD τ sig (Elt F) Λ₀ .tc) α}
    {sp sp' : Space} {s' : Shape} {e' : EltTy} {sd : Shape} {ed : EltTy} (k : Tr) {sS : DmaSem sig} (eS : sS = sendSem k)
    {src : Memref sig .tc sp s' e'} {dst : Memref sig .tc sp' sd ed} {hsrc : src.view.WordExact} {hdst : dst.view.WordExact}
    (hN : dst.view.dmaCredit = amt k) {s w j : ℕ} (hs : idx k < s) :
    iprop(St X K c s w j (idx k) ∗ (St X K c s w j (idx k + 1) -∗ wp frame (wpE (defs₀ (F := F)) 𝒱₀ (c : Thread nD τ) none) Set.univ (kk ⟨⟩) Kt))
      ⊢ wp frame (wpE (defs₀ (F := F)) 𝒱₀ (c : Thread nD τ) none) Set.univ (.op (.waitDma2 sS src dst hsrc hdst) kk) Kt := by
  subst eS
  unfold St
  iintro ⟨⟨#HR, #HL, HO, HSI, HRI, HRO, HSA, HSC, HSO, Hxs, Hxr, HM⟩, Hk⟩
  ihave HSA := (live_take k (S := fun l => idx k ≤ idx l) (Nat.le_refl _) (S' := fun l => idx k + 1 ≤ idx l) (fun l => by beta_reduce; rw [ne_idx]; omega)) $$ HSA
  icases HSA with ⟨Hat, HSA⟩
  ihave HSC := (live_take k (S := fun l => idx k ≤ idx l ∧ idx l < s) ⟨Nat.le_refl _, hs⟩ (S' := fun l => idx k + 1 ≤ idx l ∧ idx l < s) (fun l => by beta_reduce; rw [ne_idx]; omega)) $$ HSC
  icases HSC with ⟨Hcr, HSC⟩
  unfold sendAt sendCr owesE
  icases HO with ⟨%W, HO⟩
  ihave HcS := (recs_send X K c k) $$ HR
  icases HcS with ⟨#HcS, #HrS⟩
  iapply (Rounds.wp_wait_rest_token 𝒱₀ ER (Rd X) (c : Thread nD τ) none (κ := K (c, .inr (.inl k)))
      (wpE_waitDma2_eq 𝒱₀ (c : Thread nD τ) none Set.univ) (Set.mem_univ _) () (O := Ow s c) (W := W) (R := 0) (m := 0) (T := ∅)
      (by rw [Nat.zero_add, expect_send]; exact hN)) $$ [Hcr HO Hat]
  · isplitr; · iexact HcS
    isplitl [Hcr]; · rw [hN]; iexact Hcr
    isplitl [HO]; · iexact HO
    isplitr; · iapply (mayWait_Ow s 0 c (.dma (sendSem k)) (lv_send c k) (by omega)); iexact HL
    iexact Hat
  iintro ⟨HO, Hat, -, Hpay⟩
  ihave Hpay := (Entails.of_eq (rest_send X c k)) $$ Hpay
  imod (Rounds.cell_close ER (Rd X) (Set.mem_univ (K (c, .inr (.inl k)))) (fun h => h) (R := 0 + 1) (duties_later X (sendCell c k))) $$ [Hat] with Hz
  · isplitr; · iexact HcS
    iexact Hat
  iapply Hk
  isplitr; · iexact HR
  isplitr; · iexact HL
  isplitl [HO]; · iexists _; iexact HO
  isplitl [HSI]; · iexact HSI
  isplitl [HRI]; · iexact HRI
  isplitl [HRO]; · iexact HRO
  isplitl [HSA]; · iexact HSA
  isplitl [HSC]; · iexact HSC
  isplitl [HSO Hz Hpay]
  · iapply (live_put k (S := fun l => idx l < idx k) (S' := fun l => idx l < idx k + 1) (fun h => Nat.lt_irrefl _ h) (fun l => by beta_reduce; rw [eq_idx]; omega))
    isplitl [Hz Hpay]
    · unfold sendOut; isplitl [Hz] <;> iassumption
    · iexact HSO
  isplitl [Hxs]; · iexact Hxs
  isplitl [Hxr]; · iexact Hxr
  iexact HM

end
end

end Cert.KernelIdealProof

end
-- ==== Proof.KernelIdeal.Views.lean ====
/-
The views the kernel reads, writes and transfers through, as pieces of the buffers, and what a landing
leaves on the piece it lands on.
-/
module

public import proofs.«01_k».proof.Proof.KernelIdeal.State

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The views -/

section
variable (n : ℕ)

/-- A rectangle of the input. -/
abbrev vX (o : Fin 2 → ℕ) (inb : ∀ a, o a + ![n, 256] a ≤ S512x512.size a)
    (h : ∀ a, (Rect.unit (s := S512x512) o ![n, 256] inb).stride a = 1) : Memref sig .tc .vmem ⟨2, ![n, 256]⟩ .f32 :=
  (Memref.whole cc0_stg0_0).slice (Rect.unit (s := S512x512) o ![n, 256] inb) h
/-- A rectangle of the output. -/
abbrev vO (o : Fin 2 → ℕ) (inb : ∀ a, o a + ![n, 256] a ≤ S512x512.size a)
    (h : ∀ a, (Rect.unit (s := S512x512) o ![n, 256] inb).stride a = 1) : Memref sig .tc .vmem ⟨2, ![n, 256]⟩ .f32 :=
  (Memref.whole cc0_stg1_0).slice (Rect.unit (s := S512x512) o ![n, 256] inb) h
/-- A rectangle of one side of the first receive buffer. -/
abbrev vB (o : Fin 3 → ℕ) (inb : ∀ a, o a + ![1, n, 256] a ≤ S2x256x256.size a)
    (h : ∀ a, (Rect.unit (s := S2x256x256) o ![1, n, 256] inb).stride a = 1)
    (hq : (⟨3, ![1, n, 256]⟩ : Shape).Squeezes ⟨2, ![n, 256]⟩) : Memref sig .tc .vmem ⟨2, ![n, 256]⟩ .f32 :=
  ((Memref.whole cc0_scratch0).slice (Rect.unit (s := S2x256x256) o ![1, n, 256] inb) h).squeeze ⟨2, ![n, 256]⟩ hq
/-- A rectangle of one side of the second receive buffer. -/
abbrev vC (o : Fin 3 → ℕ) (inb : ∀ a, o a + ![1, n, 256] a ≤ S2x128x256.size a)
    (h : ∀ a, (Rect.unit (s := S2x128x256) o ![1, n, 256] inb).stride a = 1)
    (hq : (⟨3, ![1, n, 256]⟩ : Shape).Squeezes ⟨2, ![n, 256]⟩) : Memref sig .tc .vmem ⟨2, ![n, 256]⟩ .f32 :=
  ((Memref.whole cc0_scratch1).slice (Rect.unit (s := S2x128x256) o ![1, n, 256] inb) h).squeeze ⟨2, ![n, 256]⟩ hq

variable {n} {σ : Side} {R : ℕ}

theorem set_vX {o} (ho : o = o2 σ R) (inb h) : (vX n o inb h).view.set = rows2 σ R n := by
  subst ho; exact (View.set_slice_whole _ _).trans (rect2 σ R n inb)
theorem set_vO {o} (ho : o = o2 σ R) (inb h) : (vO n o inb h).view.set = rows2 σ R n := by
  subst ho; exact (View.set_slice_whole _ _).trans (rect2 σ R n inb)
theorem set_vB {o} (ho : o = o3 σ R) (inb h hq) : (vB n o inb h hq).view.set = rows3 σ R n := by
  subst ho; exact (View.set_reshape _ _).trans ((View.set_slice_whole _ _).trans (rect3 σ R n inb))
theorem set_vC {o} (ho : o = o3 σ R) (inb h hq) : (vC n o inb h hq).view.set = rows4 σ R n := by
  subst ho; exact (View.set_reshape _ _).trans ((View.set_slice_whole _ _).trans (rect4 σ R n inb))

variable (X : Dev nD → S512x512.Idx → F .f32) (c : Dev nD)

theorem pt_vX {o} (ho : o = o2 σ R) (inb h) :
    ((vX n o inb h).view.loc (c : Thread nD τ) ↦[(vX n o inb h).view.set]{fullShare} X c : sProp 𝕄) = xP X c σ R n := by
  rw [set_vX ho inb h]; rfl
theorem pt_vO {o} (ho : o = o2 σ R) (inb h) (q : PosShare TreeShare) (f : S512x512.Idx → F .f32) :
    ((vO n o inb h).view.loc (c : Thread nD τ) ↦[(vO n o inb h).view.set]{q} f : sProp 𝕄) = oP c q σ R n f := by
  rw [set_vO ho inb h]; rfl
theorem pt_vB {o} (ho : o = o3 σ R) (inb h hq) (f : S2x256x256.Idx → F .f32) :
    ((vB n o inb h hq).view.loc (c : Thread nD τ) ↦[(vB n o inb h hq).view.set]{fullShare} f : sProp 𝕄)
      = ((c : Thread nD τ).loc cc0_scratch0 ↦[rows3 σ R n]{fullShare} f) := by
  rw [set_vB ho inb h hq]
theorem pt_vC {o} (ho : o = o3 σ R) (inb h hq) (f : S2x128x256.Idx → F .f32) :
    ((vC n o inb h hq).view.loc (c : Thread nD τ) ↦[(vC n o inb h hq).view.set]{fullShare} f : sProp 𝕄)
      = ((c : Thread nD τ).loc cc0_scratch1 ↦[rows4 σ R n]{fullShare} f) := by
  rw [set_vC ho inb h hq]

/-! ## What a landing leaves -/

/-- The input's rows land in the first receive buffer of the neighbour across `σ`. -/
theorem land_vB {oS oD} {R' : ℕ} (hS : oS = o2 σ R) (hD : oD = o3 σ R') (hR : R = r1 σ (nbr σ c) + R')
    (inbS hs inbD hd hq) (fd : S2x256x256.Idx → F .f32) :
    ((vB n oD inbD hd hq).view.loc (nbr σ c : Thread nD τ) ↦[(vB n oD inbD hd hq).view.set]{fullShare}
        ((vB n oD inbD hd hq).view.write (Elt F) fd ((vX n oS inbS hs).view.read (Elt F) (X c)) Finset.univ) : sProp 𝕄)
      ⊢ b1P X (nbr σ c) σ R' n := by
  refine (Entails.of_eq ?_).trans (Entails.of_eq (pt_vB (nbr σ c) hD inbD hd hq (B1 X (nbr σ c))))
  refine pointsTo_congr (write_on (F := F) (vB n oD inbD hd hq).view fd (B1 X (nbr σ c)) _ fun y => ?_)
  subst hS hD
  show B1 X (nbr σ c) _ = X c _
  refine (B1_eq X (σ := σ) (i := (vX n (o2 σ R) inbS hs).view.emb y) (emb3_0 σ R' inbD _ y) ?_ ?_).trans (by rw [nbr_nbr])
  · exact (emb2_0 σ R inbS y).trans (by
      rw [hR]
      exact (Nat.add_assoc _ _ _).trans (congrArg (r1 σ (nbr σ c) + ·) (emb3_1 σ R' inbD hq.numel_eq y).symm))
  · exact (emb2_1 σ R inbS y).trans (congrArg (256 * σ.val + ·) (emb3_2 σ R' inbD hq.numel_eq y).symm)

/-- The two-device sums land in the second receive buffer of the neighbour across the other direction. -/
theorem land_vC {oS oD} {R' : ℕ} (hS : oS = o2 σ R) (hD : oD = o3 σ R') (hR : R = r2 σ (nbr (oth σ) c) + R')
    (inbS hs inbD hd hq) (fd : S2x128x256.Idx → F .f32) :
    ((vC n oD inbD hd hq).view.loc (nbr (oth σ) c : Thread nD τ) ↦[(vC n oD inbD hd hq).view.set]{fullShare}
        ((vC n oD inbD hd hq).view.write (Elt F) fd ((vO n oS inbS hs).view.read (Elt F) (Pt X c)) Finset.univ) : sProp 𝕄)
      ⊢ b2P X (nbr (oth σ) c) σ R' n := by
  refine (Entails.of_eq ?_).trans (Entails.of_eq (pt_vC (nbr (oth σ) c) hD inbD hd hq (B2 X (nbr (oth σ) c))))
  refine pointsTo_congr (write_on (F := F) (vC n oD inbD hd hq).view fd (B2 X (nbr (oth σ) c)) _ fun y => ?_)
  subst hS hD
  show B2 X (nbr (oth σ) c) _ = Pt X c _
  refine (B2_eq X (σ := σ) (i := (vO n (o2 σ R) inbS hs).view.emb y) (emb4_0 σ R' inbD _ y) ?_ ?_).trans (by rw [nbr_nbr])
  · exact (emb2_0 σ R inbS y).trans (by
      rw [hR]
      exact (Nat.add_assoc _ _ _).trans (congrArg (r2 σ (nbr (oth σ) c) + ·) (emb4_1 σ R' inbD hq.numel_eq y).symm))
  · exact (emb2_1 σ R inbS y).trans (congrArg (256 * σ.val + ·) (emb4_2 σ R' inbD hq.numel_eq y).symm)

/-- Finished rows land on the same rows of another device's output. -/
theorem land_vO (d : Dev nD) {oS oD} (hS : oS = o2 σ R) (hD : oD = o2 σ R)
    (inbS hs inbD hd) (fd f : S512x512.Idx → F .f32) :
    ((vO n oD inbD hd).view.loc (d : Thread nD τ) ↦[(vO n oD inbD hd).view.set]{fullShare}
        ((vO n oD inbD hd).view.write (Elt F) fd ((vO n oS inbS hs).view.read (Elt F) f) Finset.univ) : sProp 𝕄)
      ⊢ oP d fullShare σ R n f := by
  refine (Entails.of_eq ?_).trans (Entails.of_eq (pt_vO d hD inbD hd fullShare f))
  refine pointsTo_congr (write_on (F := F) (vO n oD inbD hd).view fd f _ fun y => ?_)
  subst hS hD
  rfl

end

end Cert.KernelIdealProof

end
-- ==== Proof.KernelIdeal.Moves.lean ====
/-
How the pieces of the output pass from one use to the next: what a transfer, a landing and a stored sum
take from the pieces in use, and what they put back.
-/
module

public import proofs.«01_k».proof.Proof.KernelIdeal.Views

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {ι : Type} [Fintype ι] [DecidableEq ι]

omit [FloatOps F] in
theorem live_split {A : ι → sProp 𝕄} {S T S' : ι → Prop} (h : ∀ k, S k ↔ (T k ∨ S' k)) (hd : ∀ k, T k → ¬ S' k) :
    live A S ⊢ iprop(live A T ∗ live A S') := by
  classical
  unfold live
  refine (bigSep_mono (Ψ := fun k => iprop((if T k then A k else iprop(emp)) ∗ (if S' k then A k else iprop(emp)))) fun k _ => ?_).trans
    (Entails.of_eq (bigSep_sep' _ _ _))
  by_cases ht : T k
  · rw [if_pos ht, if_pos ((h k).mpr (.inl ht)), if_neg (hd k ht)]
    show A k ⊢ iprop(A k ∗ emp)
    iintro H; isplitl [H]; · iexact H
    iempintro
  · by_cases hs : S' k
    · rw [if_neg ht, if_pos hs, if_pos ((h k).mpr (.inr hs))]
      show A k ⊢ iprop(emp ∗ A k)
      iintro H; isplitr; · iempintro
      iexact H
    · rw [if_neg ht, if_neg hs, if_neg (fun e => ((h k).mp e).elim ht hs)]
      show (emp : sProp 𝕄) ⊢ iprop(emp ∗ emp)
      iintro -; isplitr <;> iempintro

/-- The held members of one side. -/
theorem live_side {A : Pc → sProp 𝕄} (σ : Side) : live A (fun p => p.1 = σ) ⊢ bigSep Finset.univ fun i : Fin 4 => A (σ, i) := by
  classical
  unfold live
  rw [bigSep_univ_prod]
  refine (bigSep_elim (Finset.mem_univ σ)).trans (bigSep_mono fun i _ => ?_)
  rw [if_pos rfl]
  exact .refl _

end

theorem rows2_four (σ : Side) (R : ℕ) : (Finset.univ : Finset (Fin 4)).biUnion (fun i => rows2 σ (R + 32 * i.val) 32) = rows2 σ R 128 := by
  ext x
  simp only [Finset.mem_biUnion, Finset.mem_univ, _root_.true_and, mem_rows2]
  constructor
  · rintro ⟨i, h⟩; have := i.isLt; omega
  · intro h
    obtain ⟨i, hi⟩ : ∃ i : Fin 4, i.val = ((x 0).val - R) / 32 := ⟨⟨((x 0).val - R) / 32, by omega⟩, rfl⟩
    exact ⟨i, by omega⟩

section
variable (X : Dev nD → S512x512.Idx → F .f32) (c : Dev nD)

/-- A 128-row block of the output is its four pieces. -/
theorem oP_four (q : PosShare TreeShare) (σ : Side) (R : ℕ) (f : S512x512.Idx → F .f32) :
    (bigSep Finset.univ fun i : Fin 4 => oP c q σ (R + 32 * i.val) 32 f) = oP c q σ R 128 f := by
  unfold oP
  rw [← rows2_four σ R]
  refine (pointsTo_biUnion _ _ fun i _ j _ hij => Finset.disjoint_left.mpr fun x hi hj => hij (Fin.ext ?_)).symm
  rw [mem_rows2] at hi hj
  omega

variable {w j s : ℕ}

/-- The first exchange's transfers take no piece of the output. -/
theorem mix_first {s s' : ℕ} (h : s ≤ 10) (h' : s' ≤ 10) : Mix X c s w j ⊢ iprop(emp ∗ Mix X c s' w j) := by
  iintro H
  isplitr; · iempintro
  iapply (Mix_same X c fun p => by refine ⟨⟨?_, ?_⟩, ?_, ?_, ?_, ?_, ?_⟩ <;> omega) $$ H

/-- The gather's landings between devices of the first exchange bring no piece to pass on. -/
theorem mix_last {R : sProp 𝕄} {w w' : ℕ} (h : w ≤ 10 ∨ 26 ≤ w) (h' : w' ≤ 10 ∧ w ≤ 10 ∨ 26 ≤ w' ∧ 26 ≤ w) : iprop(R ∗ Mix X c s w j) ⊢ Mix X c s w' j := by
  iintro ⟨-, H⟩
  iapply (Mix_same X c fun p => by have := ord_lt p; refine ⟨⟨?_, ?_⟩, ?_, ?_, ?_, ?_, ?_⟩ <;> omega) $$ H

/-- The second exchange's transfer takes the two-device sum. -/
theorem mix_C (p : Pc) {o : ℕ} (ho : ord p = o) (hj : o < j) :
    Mix X c (10 + o) w j ⊢ iprop(osP X c p ∗ Mix X c (10 + o + 1) w j) := by
  have hp := ord_lt p
  have hσ := p.1.isLt
  unfold Mix
  iintro ⟨H1, H2, H3, H4, H5, H6, H7⟩
  ihave H3 := (live_take (A := osP X c) p (S := fun p => ord p < j ∧ (10 + o) ≤ 10 + ord p) (S' := fun p => ord p < j ∧ (10 + o + 1) ≤ 10 + ord p) (by beta_reduce; omega) (fun q => by beta_reduce; rw [ne_ord]; omega)) $$ H3
  icases H3 with ⟨E3, H3⟩
  isplitl [E3]; · iexact E3
  isplitl [H1]; · iapply (live_same (A := osA c) (S := fun p => j ≤ ord p) (S' := fun p => j ≤ ord p) fun q => by have := ord_lt q; have := q.1.isLt; beta_reduce; omega) $$ H1
  isplitl [H2]; · iapply (live_same (A := orA c) (S := fun p => j ≤ 8 + ord p) (S' := fun p => j ≤ 8 + ord p) fun q => by have := ord_lt q; have := q.1.isLt; beta_reduce; omega) $$ H2
  isplitl [H3]; · iexact H3
  isplitl [H4]; · iapply (live_same (A := onA c) (S := fun p => 10 + ord p < w ∧ (10 + o) ≤ 18 + ord p) (S' := fun p => 10 + ord p < w ∧ (10 + o + 1) ≤ 18 + ord p) fun q => by have := ord_lt q; have := q.1.isLt; beta_reduce; omega) $$ H4
  isplitl [H5]; · iapply (live_same (A := osT X c) (S := fun p => 18 + ord p < w ∧ (10 + o) ≤ 28 + ord p) (S' := fun p => 18 + ord p < w ∧ (10 + o + 1) ≤ 28 + ord p) fun q => by have := ord_lt q; have := q.1.isLt; beta_reduce; omega) $$ H5
  isplitl [H6]; · iapply (live_same (A := orT X c) (S := fun p => 8 + ord p < j ∧ (10 + o) ≤ 18 + ord p) (S' := fun p => 8 + ord p < j ∧ (10 + o + 1) ≤ 18 + ord p) fun q => by have := ord_lt q; have := q.1.isLt; beta_reduce; omega) $$ H6
  iapply (live_same (A := orH X c) (S := fun p => 18 + ord p < (10 + o) ∧ (10 + o) ≤ 26 + p.1.val) (S' := fun p => 18 + ord p < (10 + o + 1) ∧ (10 + o + 1) ≤ 26 + p.1.val) fun q => by have := ord_lt q; have := q.1.isLt; beta_reduce; omega) $$ H7

/-- The transfer of a finished piece across the second direction takes the piece, one half of which is
kept, and the place it lands on. -/
theorem mix_D (p : Pc) {o : ℕ} (ho : ord p = o) (hw : 10 + o < w) (hj : 8 + o < j) :
    Mix X c (18 + o) w j ⊢ iprop((onA c p ∗ oP c fullShare.left p.1 (r2 p.1 c + 32 * p.2.val) 32 (Tt X)) ∗ Mix X c (18 + o + 1) w j) := by
  have hp := ord_lt p
  have hσ := p.1.isLt
  unfold Mix
  iintro ⟨H1, H2, H3, H4, H5, H6, H7⟩
  ihave H4 := (live_take (A := onA c) p (S := fun p => 10 + ord p < w ∧ (18 + o) ≤ 18 + ord p) (S' := fun p => 10 + ord p < w ∧ (18 + o + 1) ≤ 18 + ord p) (by beta_reduce; omega) (fun q => by beta_reduce; rw [ne_ord]; omega)) $$ H4
  icases H4 with ⟨E4, H4⟩
  ihave H6 := (live_take (A := orT X c) p (S := fun p => 8 + ord p < j ∧ (18 + o) ≤ 18 + ord p) (S' := fun p => 8 + ord p < j ∧ (18 + o + 1) ≤ 18 + ord p) (by beta_reduce; omega) (fun q => by beta_reduce; rw [ne_ord]; omega)) $$ H6
  icases H6 with ⟨E6, H6⟩
  unfold orT oP
  ihave E6 := (pointsTo_share (PosShare.mem_left_op_right fullShare)).1 $$ E6
  icases E6 with ⟨El, Er⟩
  isplitl [E4 El]
  · isplitl [E4] <;> iassumption
  isplitl [H1]; · iapply (live_same (A := osA c) (S := fun p => j ≤ ord p) (S' := fun p => j ≤ ord p) fun q => by have := ord_lt q; have := q.1.isLt; beta_reduce; omega) $$ H1
  isplitl [H2]; · iapply (live_same (A := orA c) (S := fun p => j ≤ 8 + ord p) (S' := fun p => j ≤ 8 + ord p) fun q => by have := ord_lt q; have := q.1.isLt; beta_reduce; omega) $$ H2
  isplitl [H3]; · iapply (live_same (A := osP X c) (S := fun p => ord p < j ∧ (18 + o) ≤ 10 + ord p) (S' := fun p => ord p < j ∧ (18 + o + 1) ≤ 10 + ord p) fun q => by have := ord_lt q; have := q.1.isLt; beta_reduce; omega) $$ H3
  isplitl [H4]; · iexact H4
  isplitl [H5]; · iapply (live_same (A := osT X c) (S := fun p => 18 + ord p < w ∧ (18 + o) ≤ 28 + ord p) (S' := fun p => 18 + ord p < w ∧ (18 + o + 1) ≤ 28 + ord p) fun q => by have := ord_lt q; have := q.1.isLt; beta_reduce; omega) $$ H5
  isplitl [H6]; · iexact H6
  iapply (live_put (A := orH X c) p (S := fun p => 18 + ord p < (18 + o) ∧ (18 + o) ≤ 26 + p.1.val) (S' := fun p => 18 + ord p < (18 + o + 1) ∧ (18 + o + 1) ≤ 26 + p.1.val) (by beta_reduce; omega) (fun q => by beta_reduce; rw [eq_ord]; omega))
  isplitl [Er]; · unfold orH oP; iexact Er
  iassumption

/-- The transfer of a finished block takes the halves kept of its pieces. -/
theorem mix_E (σ : Side) : Mix X c (26 + σ.val) w j ⊢ iprop(oP c fullShare.right σ (r2 σ c) 128 (Tt X) ∗ Mix X c (26 + σ.val + 1) w j) := by
  have hσ := σ.isLt
  unfold Mix
  iintro ⟨H1, H2, H3, H4, H5, H6, H7⟩
  ihave H7 := (live_split (A := orH X c) (S := fun p => 18 + ord p < 26 + σ.val ∧ 26 + σ.val ≤ 26 + p.1.val) (T := fun p => p.1 = σ)
    (S' := fun p => 18 + ord p < 26 + σ.val + 1 ∧ 26 + σ.val + 1 ≤ 26 + p.1.val)
    (fun q => by have := ord_lt q; beta_reduce; rw [Fin.ext_iff]; omega) (fun q => by beta_reduce; rw [Fin.ext_iff]; omega)) $$ H7
  icases H7 with ⟨E, H7⟩
  isplitl [E]
  · iapply (Entails.of_eq (oP_four c fullShare.right σ (r2 σ c) (Tt X)))
    iapply (live_side (A := orH X c) σ) $$ E
  isplitl [H1]; · iapply (live_same (A := osA c) (S := fun p => j ≤ ord p) (S' := fun p => j ≤ ord p) fun q => by have := ord_lt q; beta_reduce; omega) $$ H1
  isplitl [H2]; · iapply (live_same (A := orA c) (S := fun p => j ≤ 8 + ord p) (S' := fun p => j ≤ 8 + ord p) fun q => by have := ord_lt q; beta_reduce; omega) $$ H2
  isplitl [H3]; · iapply (live_same (A := osP X c) (S := fun p => ord p < j ∧ (26 + σ.val) ≤ 10 + ord p) (S' := fun p => ord p < j ∧ (26 + σ.val + 1) ≤ 10 + ord p) fun q => by have := ord_lt q; beta_reduce; omega) $$ H3
  isplitl [H4]; · iapply (live_same (A := onA c) (S := fun p => 10 + ord p < w ∧ (26 + σ.val) ≤ 18 + ord p) (S' := fun p => 10 + ord p < w ∧ (26 + σ.val + 1) ≤ 18 + ord p) fun q => by have := ord_lt q; beta_reduce; omega) $$ H4
  isplitl [H5]; · iapply (live_same (A := osT X c) (S := fun p => 18 + ord p < w ∧ (26 + σ.val) ≤ 28 + ord p) (S' := fun p => 18 + ord p < w ∧ (26 + σ.val + 1) ≤ 28 + ord p) fun q => by have := ord_lt q; beta_reduce; omega) $$ H5
  isplitl [H6]; · iapply (live_same (A := orT X c) (S := fun p => 8 + ord p < j ∧ (26 + σ.val) ≤ 18 + ord p) (S' := fun p => 8 + ord p < j ∧ (26 + σ.val + 1) ≤ 18 + ord p) fun q => by have := ord_lt q; beta_reduce; omega) $$ H6
  iexact H7

/-- The transfer of a finished piece across the first direction takes the piece. -/
theorem mix_G (p : Pc) {o : ℕ} (ho : ord p = o) (hw : 18 + o < w) :
    Mix X c (28 + o) w j ⊢ iprop(osT X c p ∗ Mix X c (28 + o + 1) w j) := by
  have hp := ord_lt p
  have hσ := p.1.isLt
  unfold Mix
  iintro ⟨H1, H2, H3, H4, H5, H6, H7⟩
  ihave H5 := (live_take (A := osT X c) p (S := fun p => 18 + ord p < w ∧ (28 + o) ≤ 28 + ord p) (S' := fun p => 18 + ord p < w ∧ (28 + o + 1) ≤ 28 + ord p) (by beta_reduce; omega) (fun q => by beta_reduce; rw [ne_ord]; omega)) $$ H5
  icases H5 with ⟨E5, H5⟩
  isplitl [E5]; · iexact E5
  isplitl [H1]; · iapply (live_same (A := osA c) (S := fun p => j ≤ ord p) (S' := fun p => j ≤ ord p) fun q => by have := ord_lt q; have := q.1.isLt; beta_reduce; omega) $$ H1
  isplitl [H2]; · iapply (live_same (A := orA c) (S := fun p => j ≤ 8 + ord p) (S' := fun p => j ≤ 8 + ord p) fun q => by have := ord_lt q; have := q.1.isLt; beta_reduce; omega) $$ H2
  isplitl [H3]; · iapply (live_same (A := osP X c) (S := fun p => ord p < j ∧ (28 + o) ≤ 10 + ord p) (S' := fun p => ord p < j ∧ (28 + o + 1) ≤ 10 + ord p) fun q => by have := ord_lt q; have := q.1.isLt; beta_reduce; omega) $$ H3
  isplitl [H4]; · iapply (live_same (A := onA c) (S := fun p => 10 + ord p < w ∧ (28 + o) ≤ 18 + ord p) (S' := fun p => 10 + ord p < w ∧ (28 + o + 1) ≤ 18 + ord p) fun q => by have := ord_lt q; have := q.1.isLt; beta_reduce; omega) $$ H4
  isplitl [H5]; · iexact H5
  isplitl [H6]; · iapply (live_same (A := orT X c) (S := fun p => 8 + ord p < j ∧ (28 + o) ≤ 18 + ord p) (S' := fun p => 8 + ord p < j ∧ (28 + o + 1) ≤ 18 + ord p) fun q => by have := ord_lt q; have := q.1.isLt; beta_reduce; omega) $$ H6
  iapply (live_same (A := orH X c) (S := fun p => 18 + ord p < (28 + o) ∧ (28 + o) ≤ 26 + p.1.val) (S' := fun p => 18 + ord p < (28 + o + 1) ∧ (28 + o + 1) ≤ 26 + p.1.val) fun q => by have := ord_lt q; have := q.1.isLt; beta_reduce; omega) $$ H7

/-- The second exchange's landing brings the place the finished piece goes to. -/
theorem mix_rC (p : Pc) {o : ℕ} (ho : ord p = o) (hs : s ≤ 18 + o) :
    iprop(onA c p ∗ Mix X c s (10 + o) j) ⊢ Mix X c s (10 + o + 1) j := by
  have hp := ord_lt p
  have hσ := p.1.isLt
  unfold Mix
  iintro ⟨E, ⟨H1, H2, H3, H4, H5, H6, H7⟩⟩
  isplitl [H1]; · iapply (live_same (A := osA c) (S := fun p => j ≤ ord p) (S' := fun p => j ≤ ord p) fun q => by have := ord_lt q; have := q.1.isLt; beta_reduce; omega) $$ H1
  isplitl [H2]; · iapply (live_same (A := orA c) (S := fun p => j ≤ 8 + ord p) (S' := fun p => j ≤ 8 + ord p) fun q => by have := ord_lt q; have := q.1.isLt; beta_reduce; omega) $$ H2
  isplitl [H3]; · iapply (live_same (A := osP X c) (S := fun p => ord p < j ∧ s ≤ 10 + ord p) (S' := fun p => ord p < j ∧ s ≤ 10 + ord p) fun q => by have := ord_lt q; have := q.1.isLt; beta_reduce; omega) $$ H3
  isplitl [H4 E]
  · iapply (live_put (A := onA c) p (S := fun p => 10 + ord p < (10 + o) ∧ s ≤ 18 + ord p) (S' := fun p => 10 + ord p < (10 + o + 1) ∧ s ≤ 18 + ord p) (by beta_reduce; omega) (fun q => by beta_reduce; rw [eq_ord]; omega))
    isplitl [E] <;> iassumption
  isplitl [H5]; · iapply (live_same (A := osT X c) (S := fun p => 18 + ord p < (10 + o) ∧ s ≤ 28 + ord p) (S' := fun p => 18 + ord p < (10 + o + 1) ∧ s ≤ 28 + ord p) fun q => by have := ord_lt q; have := q.1.isLt; beta_reduce; omega) $$ H5
  isplitl [H6]; · iapply (live_same (A := orT X c) (S := fun p => 8 + ord p < j ∧ s ≤ 18 + ord p) (S' := fun p => 8 + ord p < j ∧ s ≤ 18 + ord p) fun q => by have := ord_lt q; have := q.1.isLt; beta_reduce; omega) $$ H6
  iapply (live_same (A := orH X c) (S := fun p => 18 + ord p < s ∧ s ≤ 26 + p.1.val) (S' := fun p => 18 + ord p < s ∧ s ≤ 26 + p.1.val) fun q => by have := ord_lt q; have := q.1.isLt; beta_reduce; omega) $$ H7

/-- The landing of a finished piece brings the piece, to be passed on. -/
theorem mix_rD (p : Pc) {o : ℕ} (ho : ord p = o) (hs : s ≤ 28 + o) :
    iprop(osT X c p ∗ Mix X c s (18 + o) j) ⊢ Mix X c s (18 + o + 1) j := by
  have hp := ord_lt p
  have hσ := p.1.isLt
  unfold Mix
  iintro ⟨E, ⟨H1, H2, H3, H4, H5, H6, H7⟩⟩
  isplitl [H1]; · iapply (live_same (A := osA c) (S := fun p => j ≤ ord p) (S' := fun p => j ≤ ord p) fun q => by have := ord_lt q; have := q.1.isLt; beta_reduce; omega) $$ H1
  isplitl [H2]; · iapply (live_same (A := orA c) (S := fun p => j ≤ 8 + ord p) (S' := fun p => j ≤ 8 + ord p) fun q => by have := ord_lt q; have := q.1.isLt; beta_reduce; omega) $$ H2
  isplitl [H3]; · iapply (live_same (A := osP X c) (S := fun p => ord p < j ∧ s ≤ 10 + ord p) (S' := fun p => ord p < j ∧ s ≤ 10 + ord p) fun q => by have := ord_lt q; have := q.1.isLt; beta_reduce; omega) $$ H3
  isplitl [H4]; · iapply (live_same (A := onA c) (S := fun p => 10 + ord p < (18 + o) ∧ s ≤ 18 + ord p) (S' := fun p => 10 + ord p < (18 + o + 1) ∧ s ≤ 18 + ord p) fun q => by have := ord_lt q; have := q.1.isLt; beta_reduce; omega) $$ H4
  isplitl [H5 E]
  · iapply (live_put (A := osT X c) p (S := fun p => 18 + ord p < (18 + o) ∧ s ≤ 28 + ord p) (S' := fun p => 18 + ord p < (18 + o + 1) ∧ s ≤ 28 + ord p) (by beta_reduce; omega) (fun q => by beta_reduce; rw [eq_ord]; omega))
    isplitl [E] <;> iassumption
  isplitl [H6]; · iapply (live_same (A := orT X c) (S := fun p => 8 + ord p < j ∧ s ≤ 18 + ord p) (S' := fun p => 8 + ord p < j ∧ s ≤ 18 + ord p) fun q => by have := ord_lt q; have := q.1.isLt; beta_reduce; omega) $$ H6
  iapply (live_same (A := orH X c) (S := fun p => 18 + ord p < s ∧ s ≤ 26 + p.1.val) (S' := fun p => 18 + ord p < s ∧ s ≤ 26 + p.1.val) fun q => by have := ord_lt q; have := q.1.isLt; beta_reduce; omega) $$ H7

/-- Storing a two-device sum. -/
theorem mix_s (p : Pc) {o : ℕ} (ho : ord p = o) (hs : s ≤ 10 + o) :
    Mix X c s w o ⊢ iprop(osA c p ∗ (osP X c p -∗ Mix X c s w (o + 1))) := by
  have hp := ord_lt p
  have hσ := p.1.isLt
  unfold Mix
  iintro ⟨H1, H2, H3, H4, H5, H6, H7⟩
  ihave H1 := (live_take (A := osA c) p (S := fun p => o ≤ ord p) (S' := fun p => (o + 1) ≤ ord p) (by beta_reduce; omega) (fun q => by beta_reduce; rw [ne_ord]; omega)) $$ H1
  icases H1 with ⟨E1, H1⟩
  isplitl [E1]; · iexact E1
  iintro E
  isplitl [H1]; · iexact H1
  isplitl [H2]; · iapply (live_same (A := orA c) (S := fun p => o ≤ 8 + ord p) (S' := fun p => (o + 1) ≤ 8 + ord p) fun q => by have := ord_lt q; have := q.1.isLt; beta_reduce; omega) $$ H2
  isplitl [H3 E]
  · iapply (live_put (A := osP X c) p (S := fun p => ord p < o ∧ s ≤ 10 + ord p) (S' := fun p => ord p < (o + 1) ∧ s ≤ 10 + ord p) (by beta_reduce; omega) (fun q => by beta_reduce; rw [eq_ord]; omega))
    isplitl [E] <;> iassumption
  isplitl [H4]; · iapply (live_same (A := onA c) (S := fun p => 10 + ord p < w ∧ s ≤ 18 + ord p) (S' := fun p => 10 + ord p < w ∧ s ≤ 18 + ord p) fun q => by have := ord_lt q; have := q.1.isLt; beta_reduce; omega) $$ H4
  isplitl [H5]; · iapply (live_same (A := osT X c) (S := fun p => 18 + ord p < w ∧ s ≤ 28 + ord p) (S' := fun p => 18 + ord p < w ∧ s ≤ 28 + ord p) fun q => by have := ord_lt q; have := q.1.isLt; beta_reduce; omega) $$ H5
  isplitl [H6]; · iapply (live_same (A := orT X c) (S := fun p => 8 + ord p < o ∧ s ≤ 18 + ord p) (S' := fun p => 8 + ord p < (o + 1) ∧ s ≤ 18 + ord p) fun q => by have := ord_lt q; have := q.1.isLt; beta_reduce; omega) $$ H6
  iapply (live_same (A := orH X c) (S := fun p => 18 + ord p < s ∧ s ≤ 26 + p.1.val) (S' := fun p => 18 + ord p < s ∧ s ≤ 26 + p.1.val) fun q => by have := ord_lt q; have := q.1.isLt; beta_reduce; omega) $$ H7

/-- Storing a finished piece. -/
theorem mix_r (p : Pc) {o : ℕ} (ho : ord p = o) (hs : s ≤ 18 + o) :
    Mix X c s w (8 + o) ⊢ iprop(orA c p ∗ (orT X c p -∗ Mix X c s w (8 + o + 1))) := by
  have hp := ord_lt p
  have hσ := p.1.isLt
  unfold Mix
  iintro ⟨H1, H2, H3, H4, H5, H6, H7⟩
  ihave H2 := (live_take (A := orA c) p (S := fun p => (8 + o) ≤ 8 + ord p) (S' := fun p => (8 + o + 1) ≤ 8 + ord p) (by beta_reduce; omega) (fun q => by beta_reduce; rw [ne_ord]; omega)) $$ H2
  icases H2 with ⟨E2, H2⟩
  isplitl [E2]; · iexact E2
  iintro E
  isplitl [H1]; · iapply (live_same (A := osA c) (S := fun p => (8 + o) ≤ ord p) (S' := fun p => (8 + o + 1) ≤ ord p) fun q => by have := ord_lt q; have := q.1.isLt; beta_reduce; omega) $$ H1
  isplitl [H2]; · iexact H2
  isplitl [H3]; · iapply (live_same (A := osP X c) (S := fun p => ord p < (8 + o) ∧ s ≤ 10 + ord p) (S' := fun p => ord p < (8 + o + 1) ∧ s ≤ 10 + ord p) fun q => by have := ord_lt q; have := q.1.isLt; beta_reduce; omega) $$ H3
  isplitl [H4]; · iapply (live_same (A := onA c) (S := fun p => 10 + ord p < w ∧ s ≤ 18 + ord p) (S' := fun p => 10 + ord p < w ∧ s ≤ 18 + ord p) fun q => by have := ord_lt q; have := q.1.isLt; beta_reduce; omega) $$ H4
  isplitl [H5]; · iapply (live_same (A := osT X c) (S := fun p => 18 + ord p < w ∧ s ≤ 28 + ord p) (S' := fun p => 18 + ord p < w ∧ s ≤ 28 + ord p) fun q => by have := ord_lt q; have := q.1.isLt; beta_reduce; omega) $$ H5
  isplitl [H6 E]
  · iapply (live_put (A := orT X c) p (S := fun p => 8 + ord p < (8 + o) ∧ s ≤ 18 + ord p) (S' := fun p => 8 + ord p < (8 + o + 1) ∧ s ≤ 18 + ord p) (by beta_reduce; omega) (fun q => by beta_reduce; rw [eq_ord]; omega))
    isplitl [E] <;> iassumption
  iapply (live_same (A := orH X c) (S := fun p => 18 + ord p < s ∧ s ≤ 26 + p.1.val) (S' := fun p => 18 + ord p < s ∧ s ≤ 26 + p.1.val) fun q => by have := ord_lt q; have := q.1.isLt; beta_reduce; omega) $$ H7

/-- The places of the sums not yet stored can be looked at. -/
theorem mix_peek_s (p : Pc) (h : j ≤ ord p) : Mix X c s w j ⊢ iprop(osA c p ∗ (osA c p -∗ Mix X c s w j)) := by
  unfold Mix
  iintro ⟨H1, H2, H3, H4, H5, H6, H7⟩
  ihave H1 := (live_acc (A := osA c) p (S := fun p => j ≤ ord p) h) $$ H1
  icases H1 with ⟨E, H1⟩
  isplitl [E]; · iexact E
  iintro E
  isplitl [H1 E]; · iapply H1; iexact E
  isplitl [H2]; · iexact H2
  isplitl [H3]; · iexact H3
  isplitl [H4]; · iexact H4
  isplitl [H5]; · iexact H5
  isplitl [H6]; · iexact H6
  iexact H7

theorem mix_peek_r (p : Pc) (h : j ≤ 8 + ord p) : Mix X c s w j ⊢ iprop(orA c p ∗ (orA c p -∗ Mix X c s w j)) := by
  unfold Mix
  iintro ⟨H1, H2, H3, H4, H5, H6, H7⟩
  ihave H2 := (live_acc (A := orA c) p (S := fun p => j ≤ 8 + ord p) h) $$ H2
  icases H2 with ⟨E, H2⟩
  isplitl [E]; · iexact E
  iintro E
  isplitl [H1]; · iexact H1
  isplitl [H2 E]; · iapply H2; iexact E
  isplitl [H3]; · iexact H3
  isplitl [H4]; · iexact H4
  isplitl [H5]; · iexact H5
  isplitl [H6]; · iexact H6
  iexact H7

end

end Cert.KernelIdealProof

end
-- ==== Proof.KernelIdeal.Steps.lean ====
/-
The kernel's operations over its state: each transfer, each landing, each load and each stored sum.
-/
module

public import proofs.«01_k».proof.Proof.KernelIdeal.Moves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One operation's rule followed by the rest of the program. -/
theorem chain {A B R W V : sProp 𝕄} (h : iprop(A ∗ (B -∗ W)) ⊢ V) (h' : iprop(B ∗ R) ⊢ W) : iprop(A ∗ R) ⊢ V := by
  refine BIBase.Entails.trans ?_ h
  iintro ⟨HA, HR⟩
  isplitl [HA]; · iexact HA
  iintro HB
  iapply h'
  isplitl [HB] <;> iassumption

/-! ## Rows of neighbours -/

theorem f1_nbr (σ : Side) (c : Dev nD) : f1 σ (nbr σ c) = f1 σ c := by unfold f1; rw [qt_nbr]
theorem k1_nbr (σ : Side) (c : Dev nD) : k1 σ (nbr σ c) = k1 σ c := by unfold k1; rw [qt_nbr]
theorem s1_r1 (σ : Side) (c : Dev nD) : s1 σ c = r1 σ (nbr σ c) := by unfold s1 r1; rw [hf_nbr]
theorem s2_r2 (σ : Side) (c : Dev nD) : s2 σ c = r2 σ (nbr (oth σ) c) := by unfold s2 r2; rw [hf_oth, qt_oth]
theorem r2_s2 (σ : Side) (c : Dev nD) : r2 σ c = s2 σ (nbr (oth σ) c) := by
  have := hf_le σ c; have := qt_le σ c; unfold s2 r2; rw [hf_oth, qt_oth]; omega
theorem r2_nbr (σ : Side) (c : Dev nD) : s1 σ (nbr σ c) + k1 σ (nbr σ c) = r2 σ c := by
  have := hf_le σ c; have := qt_le σ c; unfold s1 k1 r2; rw [hf_nbr, qt_nbr]; omega
theorem s2_nbr (σ : Side) (c : Dev nD) : s1 σ (nbr σ c) + f1 σ (nbr σ c) = s2 σ c := by
  have := hf_le σ c; have := qt_le σ c; unfold s1 f1 s2; rw [hf_nbr, qt_nbr]; omega
theorem r1_f1 (σ : Side) (c : Dev nD) : r1 σ c + f1 σ c = s2 σ c := rfl
theorem r1_k1 (σ : Side) (c : Dev nD) : r1 σ c + k1 σ c = r2 σ c := rfl

section
variable (X : Dev nD → S512x512.Idx → F .f32) (K : Dev nD × Cl → ℕ) (c : Dev nD)

/-! ## Transfers -/

/-- A piece of the first exchange. -/
theorem send_A {α : Type} {Kt : α → sProp 𝕄} {kk : PUnit → Prog (TpuEff nD τ sig (Elt F) Λ₀ .tc) α}
    (p : Pc) {a b w j z : ℕ} (ha : a = idx (tA p)) (hb : b = idx (tA p) + 1) (hz : z ≤ a)
    {n : Dev nD} (hn : n = nbr (p.1) c) {oS oD} (hS : oS = o2 p.1 (s1 p.1 c + f1 p.1 c + 32 * p.2.val)) (hD : oD = o3 p.1 (f1 p.1 c + 32 * p.2.val))
    {sS sR : DmaSem sig} (eS : sS = sendSem (tA p)) (eR : sR = recvSem (tA p)) {inbS hS_ inbD hD_ hq hsc hsrc hdst hsem} :
    iprop(St X K c a w j z ∗ (St X K c b w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma (vX 32 oS inbS hS_) (.remote (Dev.tc n : Thread nD τ) (vB 32 oD inbD hD_ hq) (.dma sS) hsc) (.dma sR) hsrc hdst hsem) kk) Kt := by
  subst ha hb
  have hD' : oD = o3 p.1 (f1 p.1 (nbr p.1 c) + 32 * p.2.val) := by rw [f1_nbr]; exact hD
  refine step_send X K c (tA p) hn eS eR fullShare (X c) (by rfl) hz (E := iprop(emp)) (mix_first X c (by have hp := ord_lt p; show ord p ≤ 10; omega) (by have hp := ord_lt p; show ord p + 1 ≤ 10; omega)) ?_ ?_ ?_
  · iintro ⟨-, Hs, Hd⟩
    isplitl [Hs]
    · iapply (Entails.of_eq (show srcX X c (tA p) = _ from (pt_vX X c hS inbS hS_).symm)) $$ Hs
    · ihave Hd := (Entails.of_eq (show dstA (F := F) (tgt c (tA p)) (tA p) = b1A (nbr p.1 c) p.1 (f1 p.1 (nbr p.1 c) + 32 * p.2.val) 32 from rfl)) $$ Hd
      unfold b1A
      icases Hd with ⟨%f, Hd⟩
      iexists f
      iapply (Entails.of_eq (pt_vB (nbr p.1 c) hD' inbD hD_ hq f).symm) $$ Hd
  · exact Entails.of_eq (pt_vX X c hS inbS hS_)
  · intro fd
    refine (land_vB X c hS hD' (by rw [← s1_r1, f1_nbr]; omega) inbS hS_ inbD hD_ hq fd).trans ?_
    show b1P X (nbr p.1 c) p.1 (f1 p.1 (nbr p.1 c) + 32 * p.2.val) 32 ⊢ iprop(b1P X (nbr p.1 c) p.1 (f1 p.1 (nbr p.1 c) + 32 * p.2.val) 32 ∗ emp)
    iintro H
    isplitl [H]; · iexact H
    iempintro

/-- The block of the first exchange. -/
theorem send_B {α : Type} {Kt : α → sProp 𝕄} {kk : PUnit → Prog (TpuEff nD τ sig (Elt F) Λ₀ .tc) α}
    (σ : Side) {a b w j z : ℕ} (ha : a = idx (tB σ)) (hb : b = idx (tB σ) + 1) (hz : z ≤ a)
    {n : Dev nD} (hn : n = nbr (σ) c) {oS oD} (hS : oS = o2 σ (s1 σ c + k1 σ c)) (hD : oD = o3 σ (k1 σ c))
    {sS sR : DmaSem sig} (eS : sS = sendSem (tB σ)) (eR : sR = recvSem (tB σ)) {inbS hS_ inbD hD_ hq hsc hsrc hdst hsem} :
    iprop(St X K c a w j z ∗ (St X K c b w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma (vX 128 oS inbS hS_) (.remote (Dev.tc n : Thread nD τ) (vB 128 oD inbD hD_ hq) (.dma sS) hsc) (.dma sR) hsrc hdst hsem) kk) Kt := by
  subst ha hb
  have hD' : oD = o3 σ (k1 σ (nbr σ c)) := by rw [k1_nbr]; exact hD
  refine step_send X K c (tB σ) hn eS eR fullShare (X c) (by rfl) hz (E := iprop(emp)) (mix_first X c (by have hp := σ.isLt; show 8 + σ.val ≤ 10; omega) (by have hp := σ.isLt; show 8 + σ.val + 1 ≤ 10; omega)) ?_ ?_ ?_
  · iintro ⟨-, Hs, Hd⟩
    isplitl [Hs]
    · iapply (Entails.of_eq (show srcX X c (tB σ) = _ from (pt_vX X c hS inbS hS_).symm)) $$ Hs
    · ihave Hd := (Entails.of_eq (show dstA (F := F) (tgt c (tB σ)) (tB σ) = b1A (nbr σ c) σ (k1 σ (nbr σ c)) 128 from rfl)) $$ Hd
      unfold b1A
      icases Hd with ⟨%f, Hd⟩
      iexists f
      iapply (Entails.of_eq (pt_vB (nbr σ c) hD' inbD hD_ hq f).symm) $$ Hd
  · exact Entails.of_eq (pt_vX X c hS inbS hS_)
  · intro fd
    refine (land_vB X c hS hD' (by rw [← s1_r1, k1_nbr]) inbS hS_ inbD hD_ hq fd).trans ?_
    show b1P X (nbr σ c) σ (k1 σ (nbr σ c)) 128 ⊢ iprop(b1P X (nbr σ c) σ (k1 σ (nbr σ c)) 128 ∗ emp)
    iintro H
    isplitl [H]; · iexact H
    iempintro

/-- A piece of the second exchange, whose source goes over with it. -/
theorem send_C {α : Type} {Kt : α → sProp 𝕄} {kk : PUnit → Prog (TpuEff nD τ sig (Elt F) Λ₀ .tc) α}
    (p : Pc) {a b w j z : ℕ} (ha : a = idx (tC p)) (hb : b = idx (tC p) + 1) (hz : z ≤ a) (hj : ord p < j)
    {n : Dev nD} (hn : n = nbr (oth p.1) c) {oS oD} (hS : oS = o2 p.1 (s2 p.1 c + 32 * p.2.val)) (hD : oD = o3 p.1 (32 * p.2.val))
    {sS sR : DmaSem sig} (eS : sS = sendSem (tC p)) (eR : sR = recvSem (tC p)) {inbS hS_ inbD hD_ hq hsc hsrc hdst hsem} :
    iprop(St X K c a w j z ∗ (St X K c b w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma (vO 32 oS inbS hS_) (.remote (Dev.tc n : Thread nD τ) (vC 32 oD inbD hD_ hq) (.dma sS) hsc) (.dma sR) hsrc hdst hsem) kk) Kt := by
  subst ha hb

  refine step_send_landing X K c (tC p) hn eS eR fullShare (Pt X c) (by rfl) hz (E := osP X c p) (mix_C X c p rfl hj) ?_ ?_ ?_
  · iintro ⟨HE, -, Hd⟩
    isplitl [HE]
    · unfold osP
      iapply (Entails.of_eq (pt_vO c hS inbS hS_ fullShare (Pt X c)).symm) $$ HE
    · ihave Hd := (Entails.of_eq (show dstA (F := F) (tgt c (tC p)) (tC p) = b2A (nbr (oth p.1) c) p.1 (32 * p.2.val) 32 from rfl)) $$ Hd
      unfold b2A
      icases Hd with ⟨%f, Hd⟩
      iexists f
      iapply (Entails.of_eq (pt_vC (nbr (oth p.1) c) hD inbD hD_ hq f).symm) $$ Hd
  · exact BIBase.Entails.refl
  · intro fd
    refine (BIClass.sep_mono (land_vC X c hS hD (by rw [← s2_r2]) inbS hS_ inbD hD_ hq fd) (Entails.of_eq (pt_vO c hS inbS hS_ fullShare (Pt X c)))).trans ?_
    show _ ⊢ iprop(b2P X (nbr (oth p.1) c) p.1 (32 * p.2.val) 32 ∗ oA (nbr (oth p.1) (nbr (oth p.1) c)) p.1 (r2 p.1 (nbr (oth p.1) c) + 32 * p.2.val) 32)
    iintro ⟨Hd, Hs⟩
    isplitl [Hd]; · iexact Hd
    · rw [nbr_nbr, ← s2_r2]
      unfold oA
      iexists (Pt X c)
      iexact Hs

/-- A finished piece, to the second neighbour, from one half of its share. -/
theorem send_D {α : Type} {Kt : α → sProp 𝕄} {kk : PUnit → Prog (TpuEff nD τ sig (Elt F) Λ₀ .tc) α}
    (p : Pc) {a b w j z : ℕ} (ha : a = idx (tD p)) (hb : b = idx (tD p) + 1) (hz : z ≤ a) (hw : 10 + ord p < w) (hj : 8 + ord p < j)
    {n : Dev nD} (hn : n = nbr (oth p.1) c) {oS oD} (hS : oS = o2 p.1 (r2 p.1 c + 32 * p.2.val)) (hD : oD = o2 p.1 (r2 p.1 c + 32 * p.2.val))
    {sS sR : DmaSem sig} (eS : sS = sendSem (tD p)) (eR : sR = recvSem (tD p)) {inbS hS_ inbD hD_ hsc hsrc hdst hsem} :
    iprop(St X K c a w j z ∗ (St X K c b w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma (vO 32 oS inbS hS_) (.remote (Dev.tc n : Thread nD τ) (vO 32 oD inbD hD_) (.dma sS) hsc) (.dma sR) hsrc hdst hsem) kk) Kt := by
  subst ha hb

  refine step_send X K c (tD p) hn eS eR fullShare.left (Tt X) (by rfl) hz (E := iprop(onA c p ∗ oP c fullShare.left p.1 (r2 p.1 c + 32 * p.2.val) 32 (Tt X))) (mix_D X c p rfl hw hj) ?_ ?_ ?_
  · iintro ⟨⟨Hd, HE⟩, -, -⟩
    isplitl [HE]
    · iapply (Entails.of_eq (pt_vO c hS inbS hS_ fullShare.left (Tt X)).symm) $$ HE
    · unfold onA oA
      icases Hd with ⟨%f, Hd⟩
      iexists f
      iapply (Entails.of_eq (pt_vO (nbr (oth p.1) c) hD inbD hD_ fullShare f).symm) $$ Hd
  · exact Entails.of_eq (pt_vO c hS inbS hS_ fullShare.left (Tt X))
  · intro fd
    refine (land_vO (nbr (oth p.1) c) hS hD inbS hS_ inbD hD_ fd (Tt X)).trans ?_
    rw [r2_s2]
    show oP (nbr (oth p.1) c) fullShare p.1 (s2 p.1 (nbr (oth p.1) c) + 32 * p.2.val) 32 (Tt X)
      ⊢ iprop(emp ∗ oP (nbr (oth p.1) c) fullShare p.1 (s2 p.1 (nbr (oth p.1) c) + 32 * p.2.val) 32 (Tt X))
    iintro H
    isplitr; · iempintro
    iexact H

/-- A finished block, to the first neighbour, from the other half of its share. -/
theorem send_E {α : Type} {Kt : α → sProp 𝕄} {kk : PUnit → Prog (TpuEff nD τ sig (Elt F) Λ₀ .tc) α}
    (σ : Side) {a b w j z : ℕ} (ha : a = idx (tE σ)) (hb : b = idx (tE σ) + 1) (hz : z ≤ a)
    {n : Dev nD} (hn : n = nbr (σ) c) {oS oD} (hS : oS = o2 σ (r2 σ c)) (hD : oD = o2 σ (r2 σ c))
    {sS sR : DmaSem sig} (eS : sS = sendSem (tE σ)) (eR : sR = recvSem (tE σ)) {inbS hS_ inbD hD_ hsc hsrc hdst hsem} :
    iprop(St X K c a w j z ∗ (St X K c b w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma (vO 128 oS inbS hS_) (.remote (Dev.tc n : Thread nD τ) (vO 128 oD inbD hD_) (.dma sS) hsc) (.dma sR) hsrc hdst hsem) kk) Kt := by
  subst ha hb

  refine step_send X K c (tE σ) hn eS eR fullShare.right (Tt X) (by rfl) hz (E := oP c fullShare.right σ (r2 σ c) 128 (Tt X)) (mix_E X c σ) ?_ ?_ ?_
  · iintro ⟨HE, -, Hd⟩
    isplitl [HE]
    · iapply (Entails.of_eq (pt_vO c hS inbS hS_ fullShare.right (Tt X)).symm) $$ HE
    · ihave Hd := (Entails.of_eq (show dstA (F := F) (tgt c (tE σ)) (tE σ) = oA (nbr σ c) σ (r2 σ c) 128 from by
        show oA (nbr σ c) σ (s1 σ (nbr σ c) + k1 σ (nbr σ c)) 128 = _
        rw [r2_nbr])) $$ Hd
      unfold oA
      icases Hd with ⟨%f, Hd⟩
      iexists f
      iapply (Entails.of_eq (pt_vO (nbr σ c) hD inbD hD_ fullShare f).symm) $$ Hd
  · exact Entails.of_eq (pt_vO c hS inbS hS_ fullShare.right (Tt X))
  · intro fd
    refine (land_vO (nbr σ c) hS hD inbS hS_ inbD hD_ fd (Tt X)).trans ?_
    rw [← r2_nbr]
    show oP (nbr σ c) fullShare σ (s1 σ (nbr σ c) + k1 σ (nbr σ c)) 128 (Tt X)
      ⊢ iprop(oP (nbr σ c) fullShare σ (s1 σ (nbr σ c) + k1 σ (nbr σ c)) 128 (Tt X) ∗ emp)
    iintro H
    isplitl [H]; · iexact H
    iempintro

/-- A received finished piece, passed on to the first neighbour. -/
theorem send_G {α : Type} {Kt : α → sProp 𝕄} {kk : PUnit → Prog (TpuEff nD τ sig (Elt F) Λ₀ .tc) α}
    (p : Pc) {a b w j z : ℕ} (ha : a = idx (tG p)) (hb : b = idx (tG p) + 1) (hz : z ≤ a) (hw : 18 + ord p < w)
    {n : Dev nD} (hn : n = nbr (p.1) c) {oS oD} (hS : oS = o2 p.1 (s2 p.1 c + 32 * p.2.val)) (hD : oD = o2 p.1 (s2 p.1 c + 32 * p.2.val))
    {sS sR : DmaSem sig} (eS : sS = sendSem (tG p)) (eR : sR = recvSem (tG p)) {inbS hS_ inbD hD_ hsc hsrc hdst hsem} :
    iprop(St X K c a w j z ∗ (St X K c b w j z -∗ wp frame (wpE (defs₀ (F := F)) 𝒱₀ (c : Thread nD τ) none) Set.univ (kk ⟨⟩) Kt))
      ⊢ wp frame (wpE (defs₀ (F := F)) 𝒱₀ (c : Thread nD τ) none) Set.univ
          (.op (.enqueueDma (vO 32 oS inbS hS_) (.remote (Dev.tc n : Thread nD τ) (vO 32 oD inbD hD_) (.dma sS) hsc) (.dma sR) hsrc hdst hsem) kk) Kt := by
  subst ha hb

  refine step_send X K c (tG p) hn eS eR fullShare (Tt X) (by rfl) hz (E := osT X c p) (mix_G X c p rfl hw) ?_ ?_ ?_
  · iintro ⟨HE, -, Hd⟩
    isplitl [HE]
    · unfold osT
      iapply (Entails.of_eq (pt_vO c hS inbS hS_ fullShare (Tt X)).symm) $$ HE
    · ihave Hd := (Entails.of_eq (show dstA (F := F) (tgt c (tG p)) (tG p) = oA (nbr p.1 c) p.1 (s2 p.1 c + 32 * p.2.val) 32 from by
        show oA (nbr p.1 c) p.1 (s1 p.1 (nbr p.1 c) + f1 p.1 (nbr p.1 c) + 32 * p.2.val) 32 = _
        rw [s2_nbr])) $$ Hd
      unfold oA
      icases Hd with ⟨%f, Hd⟩
      iexists f
      iapply (Entails.of_eq (pt_vO (nbr p.1 c) hD inbD hD_ fullShare f).symm) $$ Hd
  · exact Entails.of_eq (pt_vO c hS inbS hS_ fullShare (Tt X))
  · intro fd
    refine (land_vO (nbr p.1 c) hS hD inbS hS_ inbD hD_ fd (Tt X)).trans ?_
    rw [← s2_nbr]
    show oP (nbr p.1 c) fullShare p.1 (s1 p.1 (nbr p.1 c) + f1 p.1 (nbr p.1 c) + 32 * p.2.val) 32 (Tt X)
      ⊢ iprop(oP (nbr p.1 c) fullShare p.1 (s1 p.1 (nbr p.1 c) + f1 p.1 (nbr p.1 c) + 32 * p.2.val) 32 (Tt X) ∗ emp)
    iintro H
    isplitl [H]; · iexact H
    iempintro

/-! ## Landings and releases -/

/-- The landing of a piece of the second exchange. -/
theorem recv_C {α : Type} {Kt : α → sProp 𝕄} {kk : PUnit → Prog (TpuEff nD τ sig (Elt F) Λ₀ .tc) α}
    {sp sp' : Space} {s' : Shape} {e' : EltTy} {sd : Shape} {ed : EltTy} (p : Pc) {s a b j z : ℕ} (ha : a = idx (tC p)) (hb : b = idx (tC p) + 1)
    (hs : a < s) (h : s ≤ 18 + ord p) {sR : DmaSem sig} (eR : sR = recvSem (tC p))
    {src : Memref sig .tc sp s' e'} {dst : Memref sig .tc sp' sd ed} {hsrc : src.view.WordExact} {hdst : dst.view.WordExact}
    (hN : dst.view.dmaCredit = amt (tC p)) :
    iprop(St X K c s a j z ∗ (St X K c s b j z -∗ wp frame (wpE (defs₀ (F := F)) 𝒱₀ (c : Thread nD τ) none) Set.univ (kk ⟨⟩) Kt))
      ⊢ wp frame (wpE (defs₀ (F := F)) 𝒱₀ (c : Thread nD τ) none) Set.univ (.op (.waitDma2 sR src dst hsrc hdst) kk) Kt := by
  subst ha hb
  exact step_recv X K c (tC p) eR hN hs (mix_rC X c p rfl h)

/-- The landing of a finished piece from the second neighbour. -/
theorem recv_D {α : Type} {Kt : α → sProp 𝕄} {kk : PUnit → Prog (TpuEff nD τ sig (Elt F) Λ₀ .tc) α}
    {sp sp' : Space} {s' : Shape} {e' : EltTy} {sd : Shape} {ed : EltTy} (p : Pc) {s a b j z : ℕ} (ha : a = idx (tD p)) (hb : b = idx (tD p) + 1)
    (hs : a < s) (h : s ≤ 28 + ord p) {sR : DmaSem sig} (eR : sR = recvSem (tD p))
    {src : Memref sig .tc sp s' e'} {dst : Memref sig .tc sp' sd ed} {hsrc : src.view.WordExact} {hdst : dst.view.WordExact}
    (hN : dst.view.dmaCredit = amt (tD p)) :
    iprop(St X K c s a j z ∗ (St X K c s b j z -∗ wp frame (wpE (defs₀ (F := F)) 𝒱₀ (c : Thread nD τ) none) Set.univ (kk ⟨⟩) Kt))
      ⊢ wp frame (wpE (defs₀ (F := F)) 𝒱₀ (c : Thread nD τ) none) Set.univ (.op (.waitDma2 sR src dst hsrc hdst) kk) Kt := by
  subst ha hb
  exact step_recv X K c (tD p) eR hN hs (mix_rD X c p rfl h)

/-- The other landings. -/
theorem recv_O {α : Type} {Kt : α → sProp 𝕄} {kk : PUnit → Prog (TpuEff nD τ sig (Elt F) Λ₀ .tc) α}
    {sp sp' : Space} {s' : Shape} {e' : EltTy} {sd : Shape} {ed : EltTy} (k : Tr) {s a b j z : ℕ} (ha : a = idx (k)) (hb : b = idx (k) + 1)
    (hs : a < s) (h : b ≤ 10 ∨ 26 ≤ a) {sR : DmaSem sig} (eR : sR = recvSem (k))
    {src : Memref sig .tc sp s' e'} {dst : Memref sig .tc sp' sd ed} {hsrc : src.view.WordExact} {hdst : dst.view.WordExact}
    (hN : dst.view.dmaCredit = amt (k)) :
    iprop(St X K c s a j z ∗ (St X K c s b j z -∗ wp frame (wpE (defs₀ (F := F)) 𝒱₀ (c : Thread nD τ) none) Set.univ (kk ⟨⟩) Kt))
      ⊢ wp frame (wpE (defs₀ (F := F)) 𝒱₀ (c : Thread nD τ) none) Set.univ (.op (.waitDma2 sR src dst hsrc hdst) kk) Kt := by
  subst ha hb
  exact step_recv X K c (k) eR hN hs (mix_last X c (by omega) (by omega))

/-- The release of a transfer's source. -/
theorem done {α : Type} {Kt : α → sProp 𝕄} {kk : PUnit → Prog (TpuEff nD τ sig (Elt F) Λ₀ .tc) α}
    {sp sp' : Space} {s' : Shape} {e' : EltTy} {sd : Shape} {ed : EltTy} (k : Tr) {s w j a b : ℕ} (ha : a = idx k) (hb : b = idx k + 1)
    (hs : a < s) {sS : DmaSem sig} (eS : sS = sendSem k)
    {src : Memref sig .tc sp s' e'} {dst : Memref sig .tc sp' sd ed} {hsrc : src.view.WordExact} {hdst : dst.view.WordExact}
    (hN : dst.view.dmaCredit = amt k) :
    iprop(St X K c s w j a ∗ (St X K c s w j b -∗ wp frame (wpE (defs₀ (F := F)) 𝒱₀ (c : Thread nD τ) none) Set.univ (kk ⟨⟩) Kt))
      ⊢ wp frame (wpE (defs₀ (F := F)) 𝒱₀ (c : Thread nD τ) none) Set.univ (.op (.waitDma2 sS src dst hsrc hdst) kk) Kt := by
  subst ha hb
  exact step_done X K c k eS hN hs

end

end Cert.KernelIdealProof

end
-- ==== Proof.KernelIdeal.Access.lean ====
/-
The kernel's loads, sums and stores over its state.
-/
module

public import proofs.«01_k».proof.Proof.KernelIdeal.Steps
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → S512x512.Idx → F .f32) (K : Dev nD × Cl → ℕ) (c : Dev nD)

/-! ## Looking into the state -/

theorem St_xs (p : Pc) {s w j z : ℕ} : St X K c s w j z ⊢ iprop(xs X c p ∗ (xs X c p -∗ St X K c s w j z)) := by
  unfold St
  iintro ⟨#HR, #HL, HO, HSI, HRI, HRO, HSA, HSC, HSO, Hxs, Hxr, HM⟩
  ihave Hxs := (live_acc (A := xs X c) p (S := fun _ => True) trivial) $$ Hxs
  icases Hxs with ⟨E, Hxs⟩
  isplitl [E]; · iexact E
  iintro E
  isplitr; · iexact HR
  isplitr; · iexact HL
  isplitl [HO]; · iexact HO
  isplitl [HSI]; · iexact HSI
  isplitl [HRI]; · iexact HRI
  isplitl [HRO]; · iexact HRO
  isplitl [HSA]; · iexact HSA
  isplitl [HSC]; · iexact HSC
  isplitl [HSO]; · iexact HSO
  isplitl [Hxs E]; · iapply Hxs; iexact E
  isplitl [Hxr]; · iexact Hxr
  iexact HM

theorem St_xr (p : Pc) {s w j z : ℕ} : St X K c s w j z ⊢ iprop(xr X c p ∗ (xr X c p -∗ St X K c s w j z)) := by
  unfold St
  iintro ⟨#HR, #HL, HO, HSI, HRI, HRO, HSA, HSC, HSO, Hxs, Hxr, HM⟩
  ihave Hxr := (live_acc (A := xr X c) p (S := fun _ => True) trivial) $$ Hxr
  icases Hxr with ⟨E, Hxr⟩
  isplitl [E]; · iexact E
  iintro E
  isplitr; · iexact HR
  isplitr; · iexact HL
  isplitl [HO]; · iexact HO
  isplitl [HSI]; · iexact HSI
  isplitl [HRI]; · iexact HRI
  isplitl [HRO]; · iexact HRO
  isplitl [HSA]; · iexact HSA
  isplitl [HSC]; · iexact HSC
  isplitl [HSO]; · iexact HSO
  isplitl [Hxs]; · iexact Hxs
  isplitl [Hxr E]; · iapply Hxr; iexact E
  iexact HM

theorem St_recv (k : Tr) {s w j z : ℕ} (hk : idx k < w) :
    St X K c s w j z ⊢ iprop(recvKeep X c k ∗ (recvKeep X c k -∗ St X K c s w j z)) := by
  unfold St
  iintro ⟨#HR, #HL, HO, HSI, HRI, HRO, HSA, HSC, HSO, Hxs, Hxr, HM⟩
  ihave HRO := (live_acc (A := recvOut X c) k (S := fun k => idx k < w) hk) $$ HRO
  icases HRO with ⟨E, HRO⟩
  unfold recvOut
  icases E with ⟨Hz, E⟩
  isplitl [E]; · iexact E
  iintro E
  ihave HRO := HRO $$ [Hz E]
  · isplitl [Hz] <;> iassumption
  isplitr; · iexact HR
  isplitr; · iexact HL
  isplitl [HO]; · iexact HO
  isplitl [HSI]; · iexact HSI
  isplitl [HRI]; · iexact HRI
  isplitl [HRO]; · iexact HRO
  isplitl [HSA]; · iexact HSA
  isplitl [HSC]; · iexact HSC
  isplitl [HSO]; · iexact HSO
  isplitl [Hxs]; · iexact Hxs
  isplitl [Hxr]; · iexact Hxr
  iexact HM

theorem St_mix {s w j j' z : ℕ} : St X K c s w j z ⊢ iprop(Mix X c s w j ∗ (Mix X c s w j' -∗ St X K c s w j' z)) := by
  unfold St
  iintro ⟨#HR, #HL, HO, HSI, HRI, HRO, HSA, HSC, HSO, Hxs, Hxr, HM⟩
  isplitl [HM]; · iexact HM
  iintro HM
  isplitr; · iexact HR
  isplitr; · iexact HL
  isplitl [HO]; · iexact HO
  isplitl [HSI]; · iexact HSI
  isplitl [HRI]; · iexact HRI
  isplitl [HRO]; · iexact HRO
  isplitl [HSA]; · iexact HSA
  isplitl [HSC]; · iexact HSC
  isplitl [HSO]; · iexact HSO
  isplitl [Hxs]; · iexact Hxs
  isplitl [Hxr]; · iexact Hxr
  iexact HM

/-! ## The values loaded and stored -/

/-- Rows of the input. -/
def lX (σ : Side) (R : ℕ) : (⟨2, ![32, 256]⟩ : Shape).Idx → F .f32 := fun y => X c (ix (R + (y 0).val) (256 * σ.val + (y 1).val))
/-- Rows of the first receive buffer. -/
def lB (σ : Side) (R : ℕ) : (⟨3, ![1, 32, 256]⟩ : Shape).Idx → F .f32 := fun y =>
  X (nbr σ c) (ix (r1 σ c + (R + (y 1).val)) (256 * σ.val + (y 2).val))
/-- Rows of the second receive buffer. -/
def lC (σ : Side) (R : ℕ) : (⟨3, ![1, 32, 256]⟩ : Shape).Idx → F .f32 := fun y =>
  Pt X (nbr (oth σ) c) (ix (r2 σ c + (R + (y 1).val)) (256 * σ.val + (y 2).val))
/-- Rows of any contents. -/
def lF (f : S512x512.Idx → F .f32) (σ : Side) (R : ℕ) : (⟨2, ![32, 256]⟩ : Shape).Idx → F .f32 := fun y =>
  f (ix (R + (y 0).val) (256 * σ.val + (y 1).val))

theorem ix_0 {r k : ℕ} (h : r < 512) : ((ix r k) 0).val = r := Nat.mod_eq_of_lt h
theorem ix_1 {r k : ℕ} (h : k < 512) : ((ix r k) 1).val = k := Nat.mod_eq_of_lt h

theorem pay_s (p : Pc) (h h') :
    addf (shapeCast S32x256 (lX X c p.1 (s2 p.1 c + 32 * p.2.val)) h) (shapeCast S32x256 (lB X c p.1 (f1 p.1 c + 32 * p.2.val)) h')
      = lF (Pt X c) p.1 (s2 p.1 c + 32 * p.2.val) := by
  have hσ := p.1.isLt
  rw [shapeCast_self]
  funext y
  have y0 : (y 0).val < 32 := y0_lt y
  have y1 : (y 1).val < 256 := y1_lt y
  show FloatOps.addf (lX X c p.1 (s2 p.1 c + 32 * p.2.val) y) (shapeCast S32x256 (lB X c p.1 (f1 p.1 c + 32 * p.2.val)) h' y) = _
  rw [show shapeCast S32x256 (lB X c p.1 (f1 p.1 c + 32 * p.2.val)) h' y = lB X c p.1 (f1 p.1 c + 32 * p.2.val) (Fin.cons ⟨0, Nat.one_pos⟩ y) from
    shapeCast_dropUnit_apply ![32, 256] _ h' y]
  have e1 := ix_1 (r := s2 p.1 c + 32 * p.2.val + (y 0).val) (k := 256 * p.1.val + (y 1).val) (by omega)
  unfold lF
  rw [Pt_eq X (σ := p.1) (by rw [e1]; omega) (by rw [e1]; omega)]
  show FloatOps.addf (X c (ix (s2 p.1 c + 32 * p.2.val + (y 0).val) _)) (X (nbr p.1 c) (ix (r1 p.1 c + (f1 p.1 c + 32 * p.2.val + (y 0).val)) _)) = _
  rw [show r1 p.1 c + (f1 p.1 c + 32 * p.2.val + (y 0).val) = s2 p.1 c + 32 * p.2.val + (y 0).val by rw [← r1_f1]; omega]
  rfl

theorem s2_lt (σ : Side) : s2 σ c + 128 ≤ 512 := by have := hf_le σ c; have := qt_le σ c; unfold s2; omega
theorem r2_lt (σ : Side) : r2 σ c + 128 ≤ 512 := by have := hf_le σ c; have := qt_le σ c; unfold r2; omega

theorem pay_r (p : Pc) (h h' h'') :
    addf (addf (shapeCast S32x256 (lX X c p.1 (r2 p.1 c + 32 * p.2.val)) h) (shapeCast S32x256 (lB X c p.1 (k1 p.1 c + 32 * p.2.val)) h'))
        (shapeCast S32x256 (lC X c p.1 (32 * p.2.val)) h'')
      = lF (Tt X) p.1 (r2 p.1 c + 32 * p.2.val) := by
  have hσ := p.1.isLt
  have hi := p.2.isLt
  have hr := r2_lt c p.1
  rw [shapeCast_self]
  funext y
  have y0 : (y 0).val < 32 := y0_lt y
  have y1 : (y 1).val < 256 := y1_lt y
  show FloatOps.addf (FloatOps.addf (lX X c p.1 (r2 p.1 c + 32 * p.2.val) y) (shapeCast S32x256 (lB X c p.1 (k1 p.1 c + 32 * p.2.val)) h' y))
    (shapeCast S32x256 (lC X c p.1 (32 * p.2.val)) h'' y) = _
  rw [show shapeCast S32x256 (lB X c p.1 (k1 p.1 c + 32 * p.2.val)) h' y = lB X c p.1 (k1 p.1 c + 32 * p.2.val) (Fin.cons ⟨0, Nat.one_pos⟩ y) from
      shapeCast_dropUnit_apply ![32, 256] _ h' y,
    show shapeCast S32x256 (lC X c p.1 (32 * p.2.val)) h'' y = lC X c p.1 (32 * p.2.val) (Fin.cons ⟨0, Nat.one_pos⟩ y) from
      shapeCast_dropUnit_apply ![32, 256] _ h'' y]
  have e1 := ix_1 (r := r2 p.1 c + 32 * p.2.val + (y 0).val) (k := 256 * p.1.val + (y 1).val) (by omega)
  have e0 := ix_0 (r := r2 p.1 c + 32 * p.2.val + (y 0).val) (k := 256 * p.1.val + (y 1).val) (by omega)
  unfold lF
  rw [Tt_eq X (σ := p.1) (c := c) (by rw [e1]; omega) (by rw [e1]; omega) (by rw [e0]; omega) (by rw [e0]; omega),
    Pt_eq X (σ := p.1) (d := c) (by rw [e1]; omega) (by rw [e1]; omega)]
  show FloatOps.addf (FloatOps.addf (X c (ix (r2 p.1 c + 32 * p.2.val + (y 0).val) _)) (X (nbr p.1 c) (ix (r1 p.1 c + (k1 p.1 c + 32 * p.2.val + (y 0).val)) _)))
    (Pt X (nbr (oth p.1) c) (ix (r2 p.1 c + (32 * p.2.val + (y 0).val)) _)) = _
  rw [show r1 p.1 c + (k1 p.1 c + 32 * p.2.val + (y 0).val) = r2 p.1 c + 32 * p.2.val + (y 0).val by rw [← r1_k1]; omega,
    show r2 p.1 c + (32 * p.2.val + (y 0).val) = r2 p.1 c + 32 * p.2.val + (y 0).val by omega]
  rfl

/-! ## The rows a load or a store touches -/

theorem on_whole (b : Ref sig .tc) (r : Rect b.ty.shape) : (Memref.whole b).view.setOn r.toLoadRect.set = r.toLoadRect.set :=
  (View.set_slice (View.whole b) r).symm.trans (View.set_slice_whole b r)
theorem on_stg0 (σ : Side) (R : ℕ) (inb) : (Memref.whole cc0_stg0_0).view.setOn (Rect.unit (s := S512x512) (o2 σ R) ![32, 256] inb).toLoadRect.set = rows2 σ R 32 :=
  (on_whole cc0_stg0_0 (Rect.unit (s := S512x512) (o2 σ R) ![32, 256] inb)).trans (rect2 σ R 32 inb)
theorem on_stg1 (σ : Side) (R : ℕ) (inb) : (Memref.whole cc0_stg1_0).view.setOn (Rect.unit (s := S512x512) (o2 σ R) ![32, 256] inb).toLoadRect.set = rows2 σ R 32 :=
  (on_whole cc0_stg1_0 (Rect.unit (s := S512x512) (o2 σ R) ![32, 256] inb)).trans (rect2 σ R 32 inb)
theorem on_scr0 (σ : Side) (R : ℕ) (inb) : (Memref.whole cc0_scratch0).view.setOn (Rect.unit (s := S2x256x256) (o3 σ R) ![1, 32, 256] inb).toLoadRect.set = rows3 σ R 32 :=
  (on_whole cc0_scratch0 (Rect.unit (s := S2x256x256) (o3 σ R) ![1, 32, 256] inb)).trans (rect3 σ R 32 inb)
theorem on_scr1 (σ : Side) (R : ℕ) (inb) : (Memref.whole cc0_scratch1).view.setOn (Rect.unit (s := S2x128x256) (o3 σ R) ![1, 32, 256] inb).toLoadRect.set = rows4 σ R 32 :=
  (on_whole cc0_scratch1 (Rect.unit (s := S2x128x256) (o3 σ R) ![1, 32, 256] inb)).trans (rect4 σ R 32 inb)
theorem acc_stg1 (σ : Side) (R : ℕ) (inb) :
    ((Memref.whole cc0_stg1_0).access (Rect.unit (s := S512x512) (o2 σ R) ![32, 256] inb)).set = rows2 σ R 32 :=
  (View.set_slice_whole cc0_stg1_0 (Rect.unit (s := S512x512) (o2 σ R) ![32, 256] inb)).trans (rect2 σ R 32 inb)

/-! ## Loads -/

theorem step_load {α : Type} {Kt : α → sProp 𝕄} {W : sProp 𝕄} {cs : CoreSpace} {s : Shape} {e : EltTy} (m : Memref sig .tc cs s e) {r : LoadRect s} {hl : m.view.LoadsAt r}
    {kk : (r.shape.Idx → Elt F e) → Prog (TpuEff nD τ sig (Elt F) Λ₀ .tc) α} (S : Finset (Idx (m.view.loc (c : Thread nD τ)))) (q : PosShare TreeShare)
    (f : Buf (Elt F) (m.view.loc (c : Thread nD τ)))
    (hacc : W ⊢ iprop((m.view.loc (c : Thread nD τ) ↦[S]{q} f) ∗ ((m.view.loc (c : Thread nD τ) ↦[S]{q} f) -∗ W)))
    (hS : m.view.setOn r.set ⊆ S) {v : r.shape.Idx → Elt F e} (hv : m.view.readAt (Elt F) r f = v) :
    iprop(W ∗ (W -∗ wp frame (wpE (defs₀ (F := F)) 𝒱₀ (c : Thread nD τ) none) Set.univ (kk v) Kt)) ⊢ wp frame (wpE (defs₀ (F := F)) 𝒱₀ (c : Thread nD τ) none) Set.univ (.op (.load m r hl) kk) Kt := by
  iintro ⟨HW, Hk⟩
  ihave HW := hacc $$ HW
  icases HW with ⟨Hp, HW⟩
  iapply (wp_load 𝒱₀ (c : Thread nD τ) none Set.univ (m := m) hS) $$ Hp
  iintro Hp
  rw [hv]
  iapply Hk
  iapply HW
  iexact Hp

/-- A load whose value isn't used. -/
theorem step_load_any {α : Type} {Kt : α → sProp 𝕄} {W R : sProp 𝕄} {cs : CoreSpace} {s : Shape} {e : EltTy} (m : Memref sig .tc cs s e) {r : LoadRect s} {hl : m.view.LoadsAt r}
    {kk : (r.shape.Idx → Elt F e) → Prog (TpuEff nD τ sig (Elt F) Λ₀ .tc) α} (S : Finset (Idx (m.view.loc (c : Thread nD τ)))) (q : PosShare TreeShare)
    (hacc : W ⊢ iprop(∃ f, (m.view.loc (c : Thread nD τ) ↦[S]{q} f) ∗ ((m.view.loc (c : Thread nD τ) ↦[S]{q} f) -∗ W)))
    (hS : m.view.setOn r.set ⊆ S) (h : ∀ v, iprop(W ∗ R) ⊢ wp frame (wpE (defs₀ (F := F)) 𝒱₀ (c : Thread nD τ) none) Set.univ (kk v) Kt) :
    iprop(W ∗ R) ⊢ wp frame (wpE (defs₀ (F := F)) 𝒱₀ (c : Thread nD τ) none) Set.univ (.op (.load m r hl) kk) Kt := by
  iintro ⟨HW, HR⟩
  ihave HW := hacc $$ HW
  icases HW with ⟨%f, Hp, HW⟩
  iapply (wp_load 𝒱₀ (c : Thread nD τ) none Set.univ (m := m) hS) $$ Hp
  iintro Hp
  iapply (h _)
  isplitl [Hp HW]
  · iapply HW; iexact Hp
  · iexact HR

/-- A load of input rows. -/
theorem load_xs {α : Type} {Kt : α → sProp 𝕄} (p : Pc) {s w j z : ℕ} {o} (ho : o = o2 p.1 (s2 p.1 c + 32 * p.2.val)) {inb hl}
    {kk : ((⟨2, ![32, 256]⟩ : Shape).Idx → Elt F .f32) → Prog (TpuEff nD τ sig (Elt F) Λ₀ .tc) α} :
    iprop(St X K c s w j z ∗ (St X K c s w j z -∗ wp frame (wpE (defs₀ (F := F)) 𝒱₀ (c : Thread nD τ) none) Set.univ (kk (lX X c p.1 (s2 p.1 c + 32 * p.2.val))) Kt))
      ⊢ wp frame (wpE (defs₀ (F := F)) 𝒱₀ (c : Thread nD τ) none) Set.univ (.op (.load (Memref.whole cc0_stg0_0) (Rect.unit (s := S512x512) o ![32, 256] inb).toLoadRect hl) kk) Kt := by
  subst ho
  refine step_load c (cs := .vmem) (s := S512x512) (e := .f32) (Memref.whole cc0_stg0_0) (rows2 p.1 (s2 p.1 c + 32 * p.2.val) 32) fullShare (X c) (St_xs X K c p) (Finset.subset_of_eq (on_stg0 _ _ inb)) (funext fun y => ?_)
  show X c _ = X c _
  exact congrArg (X c) (ix_eq _ (emb2_0 _ _ inb y) (emb2_1 _ _ inb y)).symm

/-- A load of input rows. -/
theorem load_xr {α : Type} {Kt : α → sProp 𝕄} (p : Pc) {s w j z : ℕ} {o} (ho : o = o2 p.1 (r2 p.1 c + 32 * p.2.val)) {inb hl}
    {kk : ((⟨2, ![32, 256]⟩ : Shape).Idx → Elt F .f32) → Prog (TpuEff nD τ sig (Elt F) Λ₀ .tc) α} :
    iprop(St X K c s w j z ∗ (St X K c s w j z -∗ wp frame (wpE (defs₀ (F := F)) 𝒱₀ (c : Thread nD τ) none) Set.univ (kk (lX X c p.1 (r2 p.1 c + 32 * p.2.val))) Kt))
      ⊢ wp frame (wpE (defs₀ (F := F)) 𝒱₀ (c : Thread nD τ) none) Set.univ (.op (.load (Memref.whole cc0_stg0_0) (Rect.unit (s := S512x512) o ![32, 256] inb).toLoadRect hl) kk) Kt := by
  subst ho
  refine step_load c (cs := .vmem) (s := S512x512) (e := .f32) (Memref.whole cc0_stg0_0) (rows2 p.1 (r2 p.1 c + 32 * p.2.val) 32) fullShare (X c) (St_xr X K c p) (Finset.subset_of_eq (on_stg0 _ _ inb)) (funext fun y => ?_)
  show X c _ = X c _
  exact congrArg (X c) (ix_eq _ (emb2_0 _ _ inb y) (emb2_1 _ _ inb y)).symm

/-- A load of rows received piece by piece in the first exchange. -/
theorem load_bs {α : Type} {Kt : α → sProp 𝕄} (p : Pc) {s w j z : ℕ} (hk : idx (tA p) < w) {o} (ho : o = o3 p.1 (f1 p.1 c + 32 * p.2.val)) {inb hl}
    {kk : ((⟨3, ![1, 32, 256]⟩ : Shape).Idx → Elt F .f32) → Prog (TpuEff nD τ sig (Elt F) Λ₀ .tc) α} :
    iprop(St X K c s w j z ∗ (St X K c s w j z -∗ wp frame (wpE (defs₀ (F := F)) 𝒱₀ (c : Thread nD τ) none) Set.univ (kk (lB X c p.1 (f1 p.1 c + 32 * p.2.val))) Kt))
      ⊢ wp frame (wpE (defs₀ (F := F)) 𝒱₀ (c : Thread nD τ) none) Set.univ (.op (.load (Memref.whole cc0_scratch0) (Rect.unit (s := S2x256x256) o ![1, 32, 256] inb).toLoadRect hl) kk) Kt := by
  subst ho
  refine step_load c (cs := .vmem) (s := S2x256x256) (e := .f32) (Memref.whole cc0_scratch0) (rows3 p.1 (f1 p.1 c + 32 * p.2.val) 32) fullShare (B1 X c) (St_recv X K c (tA p) hk) (Finset.subset_of_eq (on_scr0 _ _ inb)) (funext fun y => ?_)
  have y0 : (y 0).val < 1 := (y 0).isLt
  show B1 X c _ = _
  refine B1_eq X (σ := p.1) (i := ix _ _) ?_ ?_ ?_
  · show p.1.val + 1 * (y 0).val = _; omega
  · have hσ := p.1.isLt
    have hi := p.2.isLt
    have hr := r2_lt c p.1
    have y1 : (y 1).val < 32 := (y 1).isLt
    refine (ix_0 ?_).trans ?_
    · have := s2_lt c p.1; have := r1_f1 p.1 c; omega
    · show _ = _ + (f1 p.1 c + 32 * p.2.val + 1 * (y 1).val); omega
  · have hσ := p.1.isLt
    have y2 : (y 2).val < 256 := (y 2).isLt
    refine (ix_1 (by omega)).trans ?_
    show _ = _ + (0 + 1 * (y 2).val); omega

/-- A load of rows received at once in the first exchange. -/
theorem load_br {α : Type} {Kt : α → sProp 𝕄} (p : Pc) {s w j z : ℕ} (hk : idx (tB p.1) < w) {o} (ho : o = o3 p.1 (k1 p.1 c + 32 * p.2.val)) {inb hl}
    {kk : ((⟨3, ![1, 32, 256]⟩ : Shape).Idx → Elt F .f32) → Prog (TpuEff nD τ sig (Elt F) Λ₀ .tc) α} :
    iprop(St X K c s w j z ∗ (St X K c s w j z -∗ wp frame (wpE (defs₀ (F := F)) 𝒱₀ (c : Thread nD τ) none) Set.univ (kk (lB X c p.1 (k1 p.1 c + 32 * p.2.val))) Kt))
      ⊢ wp frame (wpE (defs₀ (F := F)) 𝒱₀ (c : Thread nD τ) none) Set.univ (.op (.load (Memref.whole cc0_scratch0) (Rect.unit (s := S2x256x256) o ![1, 32, 256] inb).toLoadRect hl) kk) Kt := by
  subst ho
  refine step_load c (cs := .vmem) (s := S2x256x256) (e := .f32) (Memref.whole cc0_scratch0) (rows3 p.1 (k1 p.1 c) 128) fullShare (B1 X c) (St_recv X K c (tB p.1) hk) (by
    rw [on_scr0 _ _ inb]
    intro x hx
    have hi := p.2.isLt
    rw [mem_rows3] at hx ⊢
    omega) (funext fun y => ?_)
  have y0 : (y 0).val < 1 := (y 0).isLt
  show B1 X c _ = _
  refine B1_eq X (σ := p.1) (i := ix _ _) ?_ ?_ ?_
  · show p.1.val + 1 * (y 0).val = _; omega
  · have hσ := p.1.isLt
    have hi := p.2.isLt
    have hr := r2_lt c p.1
    have y1 : (y 1).val < 32 := (y 1).isLt
    refine (ix_0 ?_).trans ?_
    · have := r1_k1 p.1 c; omega
    · show _ = _ + (k1 p.1 c + 32 * p.2.val + 1 * (y 1).val); omega
  · have hσ := p.1.isLt
    have y2 : (y 2).val < 256 := (y 2).isLt
    refine (ix_1 (by omega)).trans ?_
    show _ = _ + (0 + 1 * (y 2).val); omega

/-- A load of rows received in the second exchange. -/
theorem load_c {α : Type} {Kt : α → sProp 𝕄} (p : Pc) {s w j z : ℕ} (hk : idx (tC p) < w) {o} (ho : o = o3 p.1 (32 * p.2.val)) {inb hl}
    {kk : ((⟨3, ![1, 32, 256]⟩ : Shape).Idx → Elt F .f32) → Prog (TpuEff nD τ sig (Elt F) Λ₀ .tc) α} :
    iprop(St X K c s w j z ∗ (St X K c s w j z -∗ wp frame (wpE (defs₀ (F := F)) 𝒱₀ (c : Thread nD τ) none) Set.univ (kk (lC X c p.1 (32 * p.2.val))) Kt))
      ⊢ wp frame (wpE (defs₀ (F := F)) 𝒱₀ (c : Thread nD τ) none) Set.univ (.op (.load (Memref.whole cc0_scratch1) (Rect.unit (s := S2x128x256) o ![1, 32, 256] inb).toLoadRect hl) kk) Kt := by
  subst ho
  refine step_load c (cs := .vmem) (s := S2x128x256) (e := .f32) (Memref.whole cc0_scratch1) (rows4 p.1 (32 * p.2.val) 32) fullShare (B2 X c) (St_recv X K c (tC p) hk) (Finset.subset_of_eq (on_scr1 _ _ inb)) (funext fun y => ?_)
  have y0 : (y 0).val < 1 := (y 0).isLt
  show B2 X c _ = _
  refine B2_eq X (σ := p.1) (i := ix _ _) ?_ ?_ ?_
  · show p.1.val + 1 * (y 0).val = _; omega
  · have hσ := p.1.isLt
    have hi := p.2.isLt
    have hr := r2_lt c p.1
    have y1 : (y 1).val < 32 := (y 1).isLt
    refine (ix_0 ?_).trans ?_
    · omega
    · show _ = _ + (32 * p.2.val + 1 * (y 1).val); omega
  · have hσ := p.1.isLt
    have y2 : (y 2).val < 256 := (y 2).isLt
    refine (ix_1 (by omega)).trans ?_
    show _ = _ + (0 + 1 * (y 2).val); omega

/-- The load of output rows before they are stored: its value isn't used. -/
theorem load_os {α : Type} {Kt : α → sProp 𝕄} {R : sProp 𝕄} (p : Pc) {s w j z : ℕ} (hj : j ≤ ord p) {o} (ho : o = o2 p.1 (s2 p.1 c + 32 * p.2.val)) {inb hl}
    {kk : ((⟨2, ![32, 256]⟩ : Shape).Idx → Elt F .f32) → Prog (TpuEff nD τ sig (Elt F) Λ₀ .tc) α}
    (h : ∀ v, iprop(St X K c s w j z ∗ R) ⊢ wp frame (wpE (defs₀ (F := F)) 𝒱₀ (c : Thread nD τ) none) Set.univ (kk v) Kt) :
    iprop(St X K c s w j z ∗ R)
      ⊢ wp frame (wpE (defs₀ (F := F)) 𝒱₀ (c : Thread nD τ) none) Set.univ (.op (.load (Memref.whole cc0_stg1_0) (Rect.unit (s := S512x512) o ![32, 256] inb).toLoadRect hl) kk) Kt := by
  subst ho
  refine step_load_any c (cs := .vmem) (s := S512x512) (e := .f32) (Memref.whole cc0_stg1_0) (rows2 p.1 (s2 p.1 c + 32 * p.2.val) 32) fullShare ?_ (Finset.subset_of_eq (on_stg1 _ _ inb)) h
  iintro HS
  ihave HS := (St_mix X K c (j' := j)) $$ HS
  icases HS with ⟨HM, HS⟩
  ihave HM := (mix_peek_s X c p hj) $$ HM
  icases HM with ⟨HE, HM⟩
  ihave HE := (Entails.of_eq (show osA (F := F) c p = iprop(∃ f, oP c fullShare p.1 (s2 p.1 c + 32 * p.2.val) 32 f) from rfl)) $$ HE
  unfold oP
  icases HE with ⟨%f, HE⟩
  iexists f
  isplitl [HE]; · iexact HE
  iintro HE
  iapply HS
  iapply HM
  unfold osA oA oP
  iexists f
  iexact HE

/-- The load of output rows before they are stored: its value isn't used. -/
theorem load_or {α : Type} {Kt : α → sProp 𝕄} {R : sProp 𝕄} (p : Pc) {s w j z : ℕ} (hj : j ≤ 8 + ord p) {o} (ho : o = o2 p.1 (r2 p.1 c + 32 * p.2.val)) {inb hl}
    {kk : ((⟨2, ![32, 256]⟩ : Shape).Idx → Elt F .f32) → Prog (TpuEff nD τ sig (Elt F) Λ₀ .tc) α}
    (h : ∀ v, iprop(St X K c s w j z ∗ R) ⊢ wp frame (wpE (defs₀ (F := F)) 𝒱₀ (c : Thread nD τ) none) Set.univ (kk v) Kt) :
    iprop(St X K c s w j z ∗ R)
      ⊢ wp frame (wpE (defs₀ (F := F)) 𝒱₀ (c : Thread nD τ) none) Set.univ (.op (.load (Memref.whole cc0_stg1_0) (Rect.unit (s := S512x512) o ![32, 256] inb).toLoadRect hl) kk) Kt := by
  subst ho
  refine step_load_any c (cs := .vmem) (s := S512x512) (e := .f32) (Memref.whole cc0_stg1_0) (rows2 p.1 (r2 p.1 c + 32 * p.2.val) 32) fullShare ?_ (Finset.subset_of_eq (on_stg1 _ _ inb)) h
  iintro HS
  ihave HS := (St_mix X K c (j' := j)) $$ HS
  icases HS with ⟨HM, HS⟩
  ihave HM := (mix_peek_r X c p hj) $$ HM
  icases HM with ⟨HE, HM⟩
  ihave HE := (Entails.of_eq (show orA (F := F) c p = iprop(∃ f, oP c fullShare p.1 (r2 p.1 c + 32 * p.2.val) 32 f) from rfl)) $$ HE
  unfold oP
  icases HE with ⟨%f, HE⟩
  iexists f
  isplitl [HE]; · iexact HE
  iintro HE
  iapply HS
  iapply HM
  unfold orA oA oP
  iexists f
  iexact HE

/-! ## Stored sums -/

/-- Storing into output rows. -/
theorem step_store {α : Type} {Kt : α → sProp 𝕄} {W V : sProp 𝕄} {kk : PUnit → Prog (TpuEff nD τ sig (Elt F) Λ₀ .tc) α} (σ : Side) (R : ℕ) (g : S512x512.Idx → F .f32)
    (hacc : W ⊢ iprop(oA c σ R 32 ∗ (oP c fullShare σ R 32 g -∗ V)))
    {o} (ho : o = o2 σ R) {pay : (⟨2, ![32, 256]⟩ : Shape).Idx → Elt F .f32} (hv : pay = lF g σ R) {inb hx hm} :
    iprop(W ∗ (V -∗ wp frame (wpE (defs₀ (F := F)) 𝒱₀ (c : Thread nD τ) none) Set.univ (kk ⟨⟩) Kt))
      ⊢ wp frame (wpE (defs₀ (F := F)) 𝒱₀ (c : Thread nD τ) none) Set.univ
        (.op (.store (Memref.whole cc0_stg1_0) (Rect.unit (s := S512x512) o ![32, 256] inb) pay Finset.univ hx hm) kk) Kt := by
  subst ho hv
  have hset := acc_stg1 σ R inb
  iintro ⟨HW, Hk⟩
  ihave HW := hacc $$ HW
  icases HW with ⟨HE, HW⟩
  unfold oA
  icases HE with ⟨%f, HE⟩
  iapply (wp_store 𝒱₀ (c : Thread nD τ) none Set.univ (m := Memref.whole cc0_stg1_0)
    (r := Rect.unit (s := S512x512) (o2 σ R) ![32, 256] inb) (Mk := Finset.univ) (S := rows2 σ R 32) (f := f) (Finset.subset_of_eq hset)) $$ [HE]
  · unfold oP; iexact HE
  iintro HE
  iapply Hk
  iapply HW
  unfold oP
  iapply (Entails.of_eq (pointsTo_congr (fun i hi =>
    write_on (F := F) ((Memref.whole cc0_stg1_0).access (Rect.unit (s := S512x512) (o2 σ R) ![32, 256] inb)) f g (lF g σ R)
      (fun y => congrArg g (ix_eq _ (emb2_0 _ _ inb y) (emb2_1 _ _ inb y)).symm) i (hset ▸ hi)))) $$ HE

/-- Storing a two-device sum. -/
theorem store_s {α : Type} {Kt : α → sProp 𝕄} {kk : PUnit → Prog (TpuEff nD τ sig (Elt F) Λ₀ .tc) α} (p : Pc) {s w a b z : ℕ} (ha : a = ord p) (hb : b = ord p + 1) (hs : s ≤ 10 + ord p)
    {o} (ho : o = o2 p.1 (s2 p.1 c + 32 * p.2.val)) {pay : (⟨2, ![32, 256]⟩ : Shape).Idx → Elt F .f32} (hv : pay = lF (Pt X c) p.1 (s2 p.1 c + 32 * p.2.val)) {inb hx hm} :
    iprop(St X K c s w a z ∗ (St X K c s w b z -∗ wp frame (wpE (defs₀ (F := F)) 𝒱₀ (c : Thread nD τ) none) Set.univ (kk ⟨⟩) Kt))
      ⊢ wp frame (wpE (defs₀ (F := F)) 𝒱₀ (c : Thread nD τ) none) Set.univ (.op (.store (Memref.whole cc0_stg1_0) (Rect.unit (s := S512x512) o ![32, 256] inb) pay Finset.univ hx hm) kk) Kt := by
  subst ha hb
  refine step_store c p.1 (s2 p.1 c + 32 * p.2.val) (Pt X c) ?_ ho hv
  iintro HS
  ihave HS := (St_mix X K c (j' := ord p + 1)) $$ HS
  icases HS with ⟨HM, HS⟩
  ihave HM := (mix_s X c p rfl hs) $$ HM
  unfold osA osP
  icases HM with ⟨HE, HM⟩
  isplitl [HE]; · iexact HE
  iintro HE
  iapply HS
  iapply HM
  iexact HE

/-- Storing a finished piece. -/
theorem store_r {α : Type} {Kt : α → sProp 𝕄} {kk : PUnit → Prog (TpuEff nD τ sig (Elt F) Λ₀ .tc) α} (p : Pc) {s w a b z : ℕ} (ha : a = 8 + ord p) (hb : b = 8 + ord p + 1) (hs : s ≤ 18 + ord p)
    {o} (ho : o = o2 p.1 (r2 p.1 c + 32 * p.2.val)) {pay : (⟨2, ![32, 256]⟩ : Shape).Idx → Elt F .f32} (hv : pay = lF (Tt X) p.1 (r2 p.1 c + 32 * p.2.val)) {inb hx hm} :
    iprop(St X K c s w a z ∗ (St X K c s w b z -∗ wp frame (wpE (defs₀ (F := F)) 𝒱₀ (c : Thread nD τ) none) Set.univ (kk ⟨⟩) Kt))
      ⊢ wp frame (wpE (defs₀ (F := F)) 𝒱₀ (c : Thread nD τ) none) Set.univ (.op (.store (Memref.whole cc0_stg1_0) (Rect.unit (s := S512x512) o ![32, 256] inb) pay Finset.univ hx hm) kk) Kt := by
  subst ha hb
  refine step_store c p.1 (r2 p.1 c + 32 * p.2.val) (Tt X) ?_ ho hv
  iintro HS
  ihave HS := (St_mix X K c (j' := 8 + ord p + 1)) $$ HS
  icases HS with ⟨HM, HS⟩
  ihave HM := (mix_r X c p rfl hs) $$ HM
  unfold orA orT
  icases HM with ⟨HE, HM⟩
  isplitl [HE]; · iexact HE
  iintro HE
  iapply HS
  iapply HM
  iexact HE

end

end Cert.KernelIdealProof

end
-- ==== Proof.KernelIdeal.Parts1.lean ====
/-
The kernel's parts up to the end of the first exchange.
-/
module

public import proofs.«01_k».proof.Proof.KernelIdeal.Access

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → S512x512.Idx → F .f32) (K : Dev nD × Cl → ℕ) (c : Dev nD)

/-- The end of a part. -/
theorem fin {c : Dev nD} {α : Type} {Kt : α → sProp 𝕄} {r : α} {V : sProp 𝕄} :
    iprop(V ∗ (V -∗ Kt r)) ⊢ wp frame (wpE (defs₀ (F := F)) 𝒱₀ (c : Thread nD τ) none) Set.univ (.ret r) Kt := by
  iintro ⟨H, Hk⟩
  rw [wp_ret]
  imodintro
  iapply Hk
  iexact H

/-- The first three copies to the first neighbour. -/
theorem part3 (v31 v32 v42 v50 v55 v57 : BitVec 32) {Kt} :
    iprop(St X K c 0 0 0 0 ∗ (St X K c 3 0 0 0 -∗ Kt ⟨⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v42 v50 v55 v57) Kt := by
  rw [k0_part3_eq_skeleton]; unfold k0_part3_skel
  simp only [Prog.lift, Prog.bind_op, Prog.bind_ret, Prog.pure_eq_ret]
  refine chain (send_A X K c (0, 0) rfl rfl (Nat.zero_le _) (dev3_eq c) (off2_eq c 0) (off1_eq c 0) rfl rfl) ?_
  refine chain (send_A X K c (1, 0) rfl rfl (Nat.zero_le _) (dev4_eq c) (off4_eq c 0) (off3_eq c 0) rfl rfl) ?_
  refine chain (send_A X K c (0, 1) rfl rfl (Nat.zero_le _) (dev5_eq c) (off2_eq c 1) (off1_eq c 1) rfl rfl) ?_
  exact fin

/-- The next three copies. -/
theorem part4 (v31 v32 v42 v50 v55 v57 : BitVec 32) {Kt} :
    iprop(St X K c 3 0 0 0 ∗ (St X K c 6 0 0 0 -∗ Kt (Scalar.addi v42 v55)))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v42 v50 v55 v57) Kt := by
  rw [k0_part4_eq_skeleton]; unfold k0_part4_skel
  simp only [Prog.lift, Prog.bind_op, Prog.bind_ret, Prog.pure_eq_ret]
  refine chain (send_A X K c (1, 1) rfl rfl (Nat.zero_le _) (dev6_eq c) (off4_eq c 1) (off3_eq c 1) rfl rfl) ?_
  refine chain (send_A X K c (0, 2) rfl rfl (Nat.zero_le _) (dev7_eq c) (off2_eq c 2) (off1_eq c 2) rfl rfl) ?_
  refine chain (send_A X K c (1, 2) rfl rfl (Nat.zero_le _) (dev8_eq c) (off4_eq c 2) (off3_eq c 2) rfl rfl) ?_
  exact fin

/-- The last two small copies of the first exchange. -/
theorem part5 (v31 v32 v42 v50 v55 v57 v58 v132 : BitVec 32) {Kt} :
    iprop(St X K c 6 0 0 0 ∗ (St X K c 8 0 0 0 -∗ Kt ⟨⟩))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v42 v50 v55 v57 v58 v132) Kt := by
  rw [k0_part5_eq_skeleton]; unfold k0_part5_skel
  simp only [Prog.lift, Prog.bind_op, Prog.bind_ret, Prog.pure_eq_ret]
  refine chain (send_A X K c (0, 3) rfl rfl (Nat.zero_le _) (dev9_eq c) (off2_eq c 3) (off1_eq c 3) rfl rfl) ?_
  refine chain (send_A X K c (1, 3) rfl rfl (Nat.zero_le _) (dev10_eq c) (off4_eq c 3) (off3_eq c 3) rfl rfl) ?_
  exact fin

/-- The two large copies, and the first two-device sum. -/
theorem part6 (v31 v32 v45 v50 v55 v59 : BitVec 32) {Kt} :
    iprop(St X K c 8 0 0 0 ∗ (St X K c 10 1 1 0 -∗ Kt ⟨⟩))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v45 v50 v55 v59) Kt := by
  rw [k0_part6_eq_skeleton]; unfold k0_part6_skel
  simp only [Prog.lift, Prog.bind_op, Prog.bind_ret, Prog.pure_eq_ret]
  refine chain (send_B X K c 0 rfl rfl (Nat.zero_le _) (dev11_eq c) (off6_eq c) (off5_eq c) rfl rfl) ?_
  refine chain (send_B X K c 1 rfl rfl (Nat.zero_le _) (dev12_eq c) (off8_eq c) (off7_eq c) rfl rfl) ?_
  refine chain (recv_O X K c (tA (0, 0)) rfl rfl (by decide) (by decide) rfl rfl) ?_
  refine chain (load_xs X K c (0, 0) (off9_eq c 0)) ?_
  refine chain (load_bs X K c (0, 0) (by decide) (off10_eq c 0)) ?_
  refine load_os X K c (0, 0) (by decide) (off9_eq c 0) (fun _ => ?_)
  refine chain (store_s X K c (0, 0) rfl rfl (by decide) (off9_eq c 0) (pay_s X c (0, 0) _ _)) ?_
  exact fin

/-- The first copy of the second exchange, and the next sum. -/
theorem part7 (v31 v32 v53 v57 : BitVec 32) {Kt} :
    iprop(St X K c 10 1 1 0 ∗ (St X K c 11 2 2 0 -∗ Kt ⟨⟩))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v53 v57) Kt := by
  rw [k0_part7_eq_skeleton]; unfold k0_part7_skel
  simp only [Prog.lift, Prog.bind_op, Prog.bind_ret, Prog.pure_eq_ret]
  refine chain (send_C X K c (0, 0) rfl rfl (Nat.zero_le _) (by decide) (dev13_eq c) (off11_eq c 0) rfl rfl rfl) ?_
  refine chain (recv_O X K c (tA (1, 0)) rfl rfl (by decide) (by decide) rfl rfl) ?_
  refine chain (load_xs X K c (1, 0) (off12_eq c 0)) ?_
  refine chain (load_bs X K c (1, 0) (by decide) (off13_eq c 0)) ?_
  refine load_os X K c (1, 0) (by decide) (off12_eq c 0) (fun _ => ?_)
  refine chain (store_s X K c (1, 0) rfl rfl (by decide) (off12_eq c 0) (pay_s X c (1, 0) _ _)) ?_
  exact fin

/-- Copies and a sum. -/
theorem part8 (v31 v32 v45 v55 : BitVec 32) {Kt} :
    iprop(St X K c 11 2 2 0 ∗ (St X K c 13 3 3 0 -∗ Kt ⟨⟩))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v45 v55) Kt := by
  rw [k0_part8_eq_skeleton]; unfold k0_part8_skel
  simp only [Prog.lift, Prog.bind_op, Prog.bind_ret, Prog.pure_eq_ret]
  refine chain (send_C X K c (1, 0) rfl rfl (Nat.zero_le _) (by decide) (dev14_eq c) (off14_eq c 0) rfl rfl rfl) ?_
  refine chain (recv_O X K c (tA (0, 1)) rfl rfl (by decide) (by decide) rfl rfl) ?_
  refine chain (load_xs X K c (0, 1) (off9_eq c 1)) ?_
  refine chain (load_bs X K c (0, 1) (by decide) (off10_eq c 1)) ?_
  refine load_os X K c (0, 1) (by decide) (off9_eq c 1) (fun _ => ?_)
  refine chain (store_s X K c (0, 1) rfl rfl (by decide) (off9_eq c 1) (pay_s X c (0, 1) _ _)) ?_
  refine chain (send_C X K c (0, 1) rfl rfl (Nat.zero_le _) (by decide) (dev15_eq c) (off11_eq c 1) rfl rfl rfl) ?_
  exact fin

/-- A sum and a copy. -/
theorem part9 (v31 v45 v53 v57 : BitVec 32) {Kt} :
    iprop(St X K c 13 3 3 0 ∗ (St X K c 14 5 4 0 -∗ Kt (Scalar.addi v45 64#32)))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v45 v53 v57) Kt := by
  rw [k0_part9_eq_skeleton]; unfold k0_part9_skel
  simp only [Prog.lift, Prog.bind_op, Prog.bind_ret, Prog.pure_eq_ret]
  refine chain (recv_O X K c (tA (1, 1)) rfl rfl (by decide) (by decide) rfl rfl) ?_
  refine chain (load_xs X K c (1, 1) (off12_eq c 1)) ?_
  refine chain (load_bs X K c (1, 1) (by decide) (off13_eq c 1)) ?_
  refine load_os X K c (1, 1) (by decide) (off12_eq c 1) (fun _ => ?_)
  refine chain (store_s X K c (1, 1) rfl rfl (by decide) (off12_eq c 1) (pay_s X c (1, 1) _ _)) ?_
  refine chain (send_C X K c (1, 1) rfl rfl (Nat.zero_le _) (by decide) (dev16_eq c) (off14_eq c 1) rfl rfl rfl) ?_
  refine chain (recv_O X K c (tA (0, 2)) rfl rfl (by decide) (by decide) rfl rfl) ?_
  exact fin

/-- A sum, a copy, and the start of the next sum. -/
theorem part10 (v32 v53 v55 v57 v291 : BitVec 32) {Kt} :
    iprop(St X K c 14 5 4 0 ∗ (St X K c 15 6 5 0 -∗ Kt ⟨Scalar.addi v53 64#32, k0_pay6 (lX X c 1 (s2 1 c + 32 * 2))⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v32 v53 v55 v57 v291) Kt := by
  rw [k0_part10_eq_skeleton]; unfold k0_part10_skel
  simp only [Prog.lift, Prog.bind_op, Prog.bind_ret, Prog.pure_eq_ret]
  refine chain (load_xs X K c (0, 2) (off9_eq c 2)) ?_
  refine chain (load_bs X K c (0, 2) (by decide) (off10_eq c 2)) ?_
  refine load_os X K c (0, 2) (by decide) (off9_eq c 2) (fun _ => ?_)
  refine chain (store_s X K c (0, 2) rfl rfl (by decide) (off9_eq c 2) (pay_s X c (0, 2) _ _)) ?_
  refine chain (send_C X K c (0, 2) rfl rfl (Nat.zero_le _) (by decide) (dev17_eq c) (off11_eq c 2) rfl rfl rfl) ?_
  refine chain (recv_O X K c (tA (1, 2)) rfl rfl (by decide) (by decide) rfl rfl) ?_
  refine chain (load_xs X K c (1, 2) (off12_eq c 2)) ?_
  exact fin

/-- Two sums and a copy. -/
theorem part11 (v31 v45 v55 v318 : BitVec 32) {Kt} :
    iprop(St X K c 15 6 5 0 ∗ (St X K c 16 7 7 0 -∗ Kt ⟨⟩))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v45 v55 v318 (k0_pay6 (lX X c 1 (s2 1 c + 32 * 2)))) Kt := by
  rw [k0_part11_eq_skeleton]; unfold k0_part11_skel
  simp only [Prog.lift, Prog.bind_op, Prog.bind_ret, Prog.pure_eq_ret]
  refine chain (load_bs X K c (1, 2) (by decide) (off13_eq c 2)) ?_
  refine load_os X K c (1, 2) (by decide) (off12_eq c 2) (fun _ => ?_)
  refine chain (store_s X K c (1, 2) rfl rfl (by decide) (off12_eq c 2) (pay_s X c (1, 2) _ _)) ?_
  refine chain (send_C X K c (1, 2) rfl rfl (Nat.zero_le _) (by decide) (dev18_eq c) (off14_eq c 2) rfl rfl rfl) ?_
  refine chain (recv_O X K c (tA (0, 3)) rfl rfl (by decide) (by decide) rfl rfl) ?_
  refine chain (load_xs X K c (0, 3) (off9_eq c 3)) ?_
  refine chain (load_bs X K c (0, 3) (by decide) (off10_eq c 3)) ?_
  refine load_os X K c (0, 3) (by decide) (off9_eq c 3) (fun _ => ?_)
  refine chain (store_s X K c (0, 3) rfl rfl (by decide) (off9_eq c 3) (pay_s X c (0, 3) _ _)) ?_
  exact fin

/-- The last two-device sum. -/
theorem part12 (v31 v32 v53 v57 : BitVec 32) {Kt} :
    iprop(St X K c 16 7 7 0 ∗ (St X K c 17 8 8 0 -∗ Kt ⟨⟩))
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v53 v57) Kt := by
  rw [k0_part12_eq_skeleton]; unfold k0_part12_skel
  simp only [Prog.lift, Prog.bind_op, Prog.bind_ret, Prog.pure_eq_ret]
  refine chain (send_C X K c (0, 3) rfl rfl (Nat.zero_le _) (by decide) (dev19_eq c) (off11_eq c 3) rfl rfl rfl) ?_
  refine chain (recv_O X K c (tA (1, 3)) rfl rfl (by decide) (by decide) rfl rfl) ?_
  refine chain (load_xs X K c (1, 3) (off12_eq c 3)) ?_
  refine chain (load_bs X K c (1, 3) (by decide) (off13_eq c 3)) ?_
  refine load_os X K c (1, 3) (by decide) (off12_eq c 3) (fun _ => ?_)
  refine chain (store_s X K c (1, 3) rfl rfl (by decide) (off12_eq c 3) (pay_s X c (1, 3) _ _)) ?_
  exact fin

/-- The end of the first exchange. -/
theorem part13 (v31 v32 v40 : BitVec 32) {Kt} :
    iprop(St X K c 17 8 8 0 ∗ (St X K c 18 11 8 0 -∗ Kt ⟨Scalar.addi v40 0#32, k0_pay10 (lX X c 0 (r2 0 c + 32 * 0)), 0#32⟩))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v40) Kt := by
  rw [k0_part13_eq_skeleton]; unfold k0_part13_skel
  simp only [Prog.lift, Prog.bind_op, Prog.bind_ret, Prog.pure_eq_ret]
  refine chain (send_C X K c (1, 3) rfl rfl (Nat.zero_le _) (by decide) (dev20_eq c) (off14_eq c 3) rfl rfl rfl) ?_
  refine chain (recv_O X K c (tB 0) rfl rfl (by decide) (by decide) rfl rfl) ?_
  refine chain (recv_O X K c (tB 1) rfl rfl (by decide) (by decide) rfl rfl) ?_
  refine chain (recv_C X K c (0, 0) rfl rfl (by decide) (by decide) rfl rfl) ?_
  refine chain (load_xr X K c (0, 0) (off15_eq c 0)) ?_
  exact fin

end

end Cert.KernelIdealProof

end
-- ==== Proof.KernelIdeal.Parts2.lean ====
/-
The kernel's parts from the finished pieces on.
-/
module

public import proofs.«01_k».proof.Proof.KernelIdeal.Parts1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → S512x512.Idx → F .f32) (K : Dev nD × Cl → ℕ) (c : Dev nD)

/-- The first finished piece. -/
theorem part14 (v31 v32 v48 v58 v59 v413 v294 : BitVec 32) {Kt} :
    iprop(St X K c 18 11 8 0 ∗ (St X K c 19 12 9 0 -∗ Kt ⟨Scalar.addi v48 0#32, k0_pay12 (lX X c 1 (r2 1 c + 32 * 0)), (lB X c 1 (k1 1 c + 32 * 0))⟩))
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v48 v58 v59 v413 (k0_pay10 (lX X c 0 (r2 0 c + 32 * 0))) v294) Kt := by
  rw [k0_part14_eq_skeleton]; unfold k0_part14_skel
  simp only [Prog.lift, Prog.bind_op, Prog.bind_ret, Prog.pure_eq_ret]
  refine chain (load_br X K c (0, 0) (by decide) (off16_eq c 0)) ?_
  refine chain (load_c X K c (0, 0) (by decide) rfl) ?_
  refine load_or X K c (0, 0) (by decide) (off15_eq c 0) (fun _ => ?_)
  refine chain (store_r X K c (0, 0) rfl rfl (by decide) (off15_eq c 0) (pay_r X c (0, 0) _ _ _)) ?_
  refine chain (send_D X K c (0, 0) rfl rfl (Nat.zero_le _) (by decide) (by decide) (dev21_eq c) (off17_eq c 0) (off17_eq c 0) rfl rfl) ?_
  refine chain (recv_C X K c (1, 0) rfl rfl (by decide) (by decide) rfl rfl) ?_
  refine chain (load_xr X K c (1, 0) (off18_eq c 0)) ?_
  refine chain (load_br X K c (1, 0) (by decide) (off19_eq c 0)) ?_
  exact fin

/-- The second finished piece. -/
theorem part15 (v31 v32 v40 v58 v442 : BitVec 32) {Kt} :
    iprop(St X K c 19 12 9 0 ∗ (St X K c 20 13 10 0 -∗ Kt ⟨Scalar.addi v40 32#32, k0_pay14 (lX X c 0 (r2 0 c + 32 * 1)) (lB X c 0 (k1 0 c + 32 * 1))⟩))
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v40 v58 v442 (k0_pay12 (lX X c 1 (r2 1 c + 32 * 0))) (lB X c 1 (k1 1 c + 32 * 0))) Kt := by
  rw [k0_part15_eq_skeleton]; unfold k0_part15_skel
  simp only [Prog.lift, Prog.bind_op, Prog.bind_ret, Prog.pure_eq_ret]
  refine chain (load_c X K c (1, 0) (by decide) rfl) ?_
  refine load_or X K c (1, 0) (by decide) (off18_eq c 0) (fun _ => ?_)
  refine chain (store_r X K c (1, 0) rfl rfl (by decide) (off18_eq c 0) (pay_r X c (1, 0) _ _ _)) ?_
  refine chain (send_D X K c (1, 0) rfl rfl (Nat.zero_le _) (by decide) (by decide) (dev22_eq c) (off20_eq c 0) (off20_eq c 0) rfl rfl) ?_
  refine chain (recv_C X K c (0, 1) rfl rfl (by decide) (by decide) rfl rfl) ?_
  refine chain (load_xr X K c (0, 1) (off15_eq c 1)) ?_
  refine chain (load_br X K c (0, 1) (by decide) (off16_eq c 1)) ?_
  exact fin

/-- The third finished piece. -/
theorem part16 (v31 v32 v48 v59 v471 : BitVec 32) {Kt} :
    iprop(St X K c 20 13 10 0 ∗ (St X K c 21 14 11 0 -∗ Kt (k0_pay16 (lX X c 1 (r2 1 c + 32 * 1)) (lB X c 1 (k1 1 c + 32 * 1)) (lC X c 1 (32 * 1)))))
      ⊢ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v48 v59 v471 (k0_pay14 (lX X c 0 (r2 0 c + 32 * 1)) (lB X c 0 (k1 0 c + 32 * 1)))) Kt := by
  rw [k0_part16_eq_skeleton]; unfold k0_part16_skel
  simp only [Prog.lift, Prog.bind_op, Prog.bind_ret, Prog.pure_eq_ret]
  refine chain (load_c X K c (0, 1) (by decide) rfl) ?_
  refine load_or X K c (0, 1) (by decide) (off15_eq c 1) (fun _ => ?_)
  refine chain (store_r X K c (0, 1) rfl rfl (by decide) (off15_eq c 1) (pay_r X c (0, 1) _ _ _)) ?_
  refine chain (send_D X K c (0, 1) rfl rfl (Nat.zero_le _) (by decide) (by decide) (dev23_eq c) (off17_eq c 1) (off17_eq c 1) rfl rfl) ?_
  refine chain (recv_C X K c (1, 1) rfl rfl (by decide) (by decide) rfl rfl) ?_
  refine chain (load_xr X K c (1, 1) (off18_eq c 1)) ?_
  refine chain (load_br X K c (1, 1) (by decide) (off19_eq c 1)) ?_
  refine chain (load_c X K c (1, 1) (by decide) rfl) ?_
  exact fin

/-- The fourth and fifth finished pieces. -/
theorem part17 (v31 v32 v40 v58 : BitVec 32) {Kt} :
    iprop(St X K c 21 14 11 0 ∗ (St X K c 22 15 13 0 -∗ Kt 1#32))
      ⊢ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v40 v58 (k0_pay16 (lX X c 1 (r2 1 c + 32 * 1)) (lB X c 1 (k1 1 c + 32 * 1)) (lC X c 1 (32 * 1)))) Kt := by
  rw [k0_part17_eq_skeleton]; unfold k0_part17_skel
  simp only [Prog.lift, Prog.bind_op, Prog.bind_ret, Prog.pure_eq_ret]
  refine load_or X K c (1, 1) (by decide) (off18_eq c 1) (fun _ => ?_)
  refine chain (store_r X K c (1, 1) rfl rfl (by decide) (off18_eq c 1) (pay_r X c (1, 1) _ _ _)) ?_
  refine chain (send_D X K c (1, 1) rfl rfl (Nat.zero_le _) (by decide) (by decide) (dev24_eq c) (off20_eq c 1) (off20_eq c 1) rfl rfl) ?_
  refine chain (recv_C X K c (0, 2) rfl rfl (by decide) (by decide) rfl rfl) ?_
  refine chain (load_xr X K c (0, 2) (off15_eq c 2)) ?_
  refine chain (load_br X K c (0, 2) (by decide) (off16_eq c 2)) ?_
  refine chain (load_c X K c (0, 2) (by decide) rfl) ?_
  refine load_or X K c (0, 2) (by decide) (off15_eq c 2) (fun _ => ?_)
  refine chain (store_r X K c (0, 2) rfl rfl (by decide) (off15_eq c 2) (pay_r X c (0, 2) _ _ _)) ?_
  exact fin

/-- The sixth finished piece. -/
theorem part18 (v31 v32 v48 v59 v388 : BitVec 32) {Kt} :
    iprop(St X K c 22 15 13 0 ∗ (St X K c 23 16 14 0 -∗ Kt ⟨⟩))
      ⊢ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v48 v59 v388) Kt := by
  rw [k0_part18_eq_skeleton]; unfold k0_part18_skel
  simp only [Prog.lift, Prog.bind_op, Prog.bind_ret, Prog.pure_eq_ret]
  refine chain (send_D X K c (0, 2) rfl rfl (Nat.zero_le _) (by decide) (by decide) (dev25_eq c) (off17_eq c 2) (off17_eq c 2) rfl rfl) ?_
  refine chain (recv_C X K c (1, 2) rfl rfl (by decide) (by decide) rfl rfl) ?_
  refine chain (load_xr X K c (1, 2) (off18_eq c 2)) ?_
  refine chain (load_br X K c (1, 2) (by decide) (off19_eq c 2)) ?_
  refine chain (load_c X K c (1, 2) (by decide) rfl) ?_
  refine load_or X K c (1, 2) (by decide) (off18_eq c 2) (fun _ => ?_)
  refine chain (store_r X K c (1, 2) rfl rfl (by decide) (off18_eq c 2) (pay_r X c (1, 2) _ _ _)) ?_
  exact fin

/-- The seventh finished piece. -/
theorem part19 (v32 v40 v58 : BitVec 32) {Kt} :
    iprop(St X K c 23 16 14 0 ∗ (St X K c 24 17 15 0 -∗ Kt ⟨⟩))
      ⊢ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v32 v40 v58) Kt := by
  rw [k0_part19_eq_skeleton]; unfold k0_part19_skel
  simp only [Prog.lift, Prog.bind_op, Prog.bind_ret, Prog.pure_eq_ret]
  refine chain (send_D X K c (1, 2) rfl rfl (Nat.zero_le _) (by decide) (by decide) (dev26_eq c) (off20_eq c 2) (off20_eq c 2) rfl rfl) ?_
  refine chain (recv_C X K c (0, 3) rfl rfl (by decide) (by decide) rfl rfl) ?_
  refine chain (load_xr X K c (0, 3) (off15_eq c 3)) ?_
  refine chain (load_br X K c (0, 3) (by decide) (off16_eq c 3)) ?_
  refine chain (load_c X K c (0, 3) (by decide) rfl) ?_
  refine load_or X K c (0, 3) (by decide) (off15_eq c 3) (fun _ => ?_)
  refine chain (store_r X K c (0, 3) rfl rfl (by decide) (off15_eq c 3) (pay_r X c (0, 3) _ _ _)) ?_
  exact fin

/-- The last finished piece. -/
theorem part20 (v31 v48 v59 : BitVec 32) {Kt} :
    iprop(St X K c 24 17 15 0 ∗ (St X K c 26 18 16 0 -∗ Kt 1#32))
      ⊢ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v48 v59) Kt := by
  rw [k0_part20_eq_skeleton]; unfold k0_part20_skel
  simp only [Prog.lift, Prog.bind_op, Prog.bind_ret, Prog.pure_eq_ret]
  refine chain (send_D X K c (0, 3) rfl rfl (Nat.zero_le _) (by decide) (by decide) (dev27_eq c) (off17_eq c 3) (off17_eq c 3) rfl rfl) ?_
  refine chain (recv_C X K c (1, 3) rfl rfl (by decide) (by decide) rfl rfl) ?_
  refine chain (load_xr X K c (1, 3) (off18_eq c 3)) ?_
  refine chain (load_br X K c (1, 3) (by decide) (off19_eq c 3)) ?_
  refine chain (load_c X K c (1, 3) (by decide) rfl) ?_
  refine load_or X K c (1, 3) (by decide) (off18_eq c 3) (fun _ => ?_)
  refine chain (store_r X K c (1, 3) rfl rfl (by decide) (off18_eq c 3) (pay_r X c (1, 3) _ _ _)) ?_
  refine chain (send_D X K c (1, 3) rfl rfl (Nat.zero_le _) (by decide) (by decide) (dev28_eq c) (off20_eq c 3) (off20_eq c 3) rfl rfl) ?_
  exact fin

/-- The large copies of the finished pieces, and the first passed on. -/
theorem part21 (v31 v32 v45 v458 : BitVec 32) {Kt} :
    iprop(St X K c 26 18 16 0 ∗ (St X K c 29 19 16 0 -∗ Kt 1#32))
      ⊢ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v45 v458) Kt := by
  rw [k0_part21_eq_skeleton]; unfold k0_part21_skel
  simp only [Prog.lift, Prog.bind_op, Prog.bind_ret, Prog.pure_eq_ret]
  refine chain (send_E X K c 0 rfl rfl (Nat.zero_le _) (dev29_eq c) (off21_eq c) (off21_eq c) rfl rfl) ?_
  refine chain (send_E X K c 1 rfl rfl (Nat.zero_le _) (dev30_eq c) (off22_eq c) (off22_eq c) rfl rfl) ?_
  refine chain (recv_D X K c (0, 0) rfl rfl (by decide) (by decide) rfl rfl) ?_
  refine chain (send_G X K c (0, 0) rfl rfl (Nat.zero_le _) (by decide) (dev31_eq c) (off11_eq c 0) (off11_eq c 0) rfl rfl) ?_
  exact fin

/-- Pieces received and passed on. -/
theorem part22 (v31 v32 v45 v53 v481 : BitVec 32) {Kt} :
    iprop(St X K c 29 19 16 0 ∗ (St X K c 31 21 16 0 -∗ Kt 1#32))
      ⊢ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v45 v53 v481) Kt := by
  rw [k0_part22_eq_skeleton]; unfold k0_part22_skel
  simp only [Prog.lift, Prog.bind_op, Prog.bind_ret, Prog.pure_eq_ret]
  refine chain (recv_D X K c (1, 0) rfl rfl (by decide) (by decide) rfl rfl) ?_
  refine chain (send_G X K c (1, 0) rfl rfl (Nat.zero_le _) (by decide) (dev32_eq c) (off14_eq c 0) (off14_eq c 0) rfl rfl) ?_
  refine chain (recv_D X K c (0, 1) rfl rfl (by decide) (by decide) rfl rfl) ?_
  refine chain (send_G X K c (0, 1) rfl rfl (Nat.zero_le _) (by decide) (dev33_eq c) (off11_eq c 1) (off11_eq c 1) rfl rfl) ?_
  exact fin

/-- Pieces received and passed on. -/
theorem part23 (v31 v32 v45 v53 v505 : BitVec 32) {Kt} :
    iprop(St X K c 31 21 16 0 ∗ (St X K c 33 23 16 0 -∗ Kt 1#32))
      ⊢ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v45 v53 v505) Kt := by
  rw [k0_part23_eq_skeleton]; unfold k0_part23_skel
  simp only [Prog.lift, Prog.bind_op, Prog.bind_ret, Prog.pure_eq_ret]
  refine chain (recv_D X K c (1, 1) rfl rfl (by decide) (by decide) rfl rfl) ?_
  refine chain (send_G X K c (1, 1) rfl rfl (Nat.zero_le _) (by decide) (dev34_eq c) (off14_eq c 1) (off14_eq c 1) rfl rfl) ?_
  refine chain (recv_D X K c (0, 2) rfl rfl (by decide) (by decide) rfl rfl) ?_
  refine chain (send_G X K c (0, 2) rfl rfl (Nat.zero_le _) (by decide) (dev35_eq c) (off11_eq c 2) (off11_eq c 2) rfl rfl) ?_
  exact fin

/-- Pieces received and passed on. -/
theorem part24 (v31 v32 v45 v53 v530 : BitVec 32) {Kt} :
    iprop(St X K c 33 23 16 0 ∗ (St X K c 35 25 16 0 -∗ Kt 1#32))
      ⊢ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v45 v53 v530) Kt := by
  rw [k0_part24_eq_skeleton]; unfold k0_part24_skel
  simp only [Prog.lift, Prog.bind_op, Prog.bind_ret, Prog.pure_eq_ret]
  refine chain (recv_D X K c (1, 2) rfl rfl (by decide) (by decide) rfl rfl) ?_
  refine chain (send_G X K c (1, 2) rfl rfl (Nat.zero_le _) (by decide) (dev36_eq c) (off14_eq c 2) (off14_eq c 2) rfl rfl) ?_
  refine chain (recv_D X K c (0, 3) rfl rfl (by decide) (by decide) rfl rfl) ?_
  refine chain (send_G X K c (0, 3) rfl rfl (Nat.zero_le _) (by decide) (dev37_eq c) (off11_eq c 3) (off11_eq c 3) rfl rfl) ?_
  exact fin

/-- The last piece passed on, and the large copies received. -/
theorem part25 (v31 v32 v53 v554 : BitVec 32) {Kt} :
    iprop(St X K c 35 25 16 0 ∗ (St X K c 36 28 16 0 -∗ Kt ⟨⟩))
      ⊢ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32 v53 v554) Kt := by
  rw [k0_part25_eq_skeleton]; unfold k0_part25_skel
  simp only [Prog.lift, Prog.bind_op, Prog.bind_ret, Prog.pure_eq_ret]
  refine chain (recv_D X K c (1, 3) rfl rfl (by decide) (by decide) rfl rfl) ?_
  refine chain (send_G X K c (1, 3) rfl rfl (Nat.zero_le _) (by decide) (dev38_eq c) (off14_eq c 3) (off14_eq c 3) rfl rfl) ?_
  refine chain (recv_O X K c (tE 0) rfl rfl (by decide) (by decide) rfl rfl) ?_
  refine chain (recv_O X K c (tE 1) rfl rfl (by decide) (by decide) rfl rfl) ?_
  exact fin

/-- Passed-on pieces received. -/
theorem part26 (v31 v32 : BitVec 32) {Kt} :
    iprop(St X K c 36 28 16 0 ∗ (St X K c 36 33 16 0 -∗ Kt ⟨⟩))
      ⊢ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32) Kt := by
  rw [k0_part26_eq_skeleton]; unfold k0_part26_skel
  simp only [Prog.lift, Prog.bind_op, Prog.bind_ret, Prog.pure_eq_ret]
  refine chain (recv_O X K c (tG (0, 0)) rfl rfl (by decide) (by decide) rfl rfl) ?_
  refine chain (recv_O X K c (tG (1, 0)) rfl rfl (by decide) (by decide) rfl rfl) ?_
  refine chain (recv_O X K c (tG (0, 1)) rfl rfl (by decide) (by decide) rfl rfl) ?_
  refine chain (recv_O X K c (tG (1, 1)) rfl rfl (by decide) (by decide) rfl rfl) ?_
  refine chain (recv_O X K c (tG (0, 2)) rfl rfl (by decide) (by decide) rfl rfl) ?_
  exact fin

/-- The last pieces received, and the first wait for a copy's departure. -/
theorem part27 (v31 v32 : BitVec 32) {Kt} :
    iprop(St X K c 36 33 16 0 ∗ (St X K c 36 36 16 1 -∗ Kt ⟨⟩))
      ⊢ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v31 v32) Kt := by
  rw [k0_part27_eq_skeleton]; unfold k0_part27_skel
  simp only [Prog.lift, Prog.bind_op, Prog.bind_ret, Prog.pure_eq_ret]
  refine chain (recv_O X K c (tG (1, 2)) rfl rfl (by decide) (by decide) rfl rfl) ?_
  refine chain (recv_O X K c (tG (0, 3)) rfl rfl (by decide) (by decide) rfl rfl) ?_
  refine chain (recv_O X K c (tG (1, 3)) rfl rfl (by decide) (by decide) rfl rfl) ?_
  refine chain (done X K c (tA (0, 0)) rfl rfl (by decide) rfl rfl) ?_
  exact fin

/-- Waits for the departure of copies. -/
theorem part28 {Kt} :
    iprop(St X K c 36 36 16 1 ∗ (St X K c 36 36 16 6 -∗ Kt ⟨⟩))
      ⊢ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c) Kt := by
  rw [k0_part28_eq_skeleton]; unfold k0_part28_skel
  simp only [Prog.lift, Prog.bind_op, Prog.bind_ret, Prog.pure_eq_ret]
  refine chain (done X K c (tA (1, 0)) rfl rfl (by decide) rfl rfl) ?_
  refine chain (done X K c (tA (0, 1)) rfl rfl (by decide) rfl rfl) ?_
  refine chain (done X K c (tA (1, 1)) rfl rfl (by decide) rfl rfl) ?_
  refine chain (done X K c (tA (0, 2)) rfl rfl (by decide) rfl rfl) ?_
  refine chain (done X K c (tA (1, 2)) rfl rfl (by decide) rfl rfl) ?_
  exact fin

/-- Waits for the departure of copies. -/
theorem part29 {Kt} :
    iprop(St X K c 36 36 16 6 ∗ (St X K c 36 36 16 11 -∗ Kt ⟨⟩))
      ⊢ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c) Kt := by
  rw [k0_part29_eq_skeleton]; unfold k0_part29_skel
  simp only [Prog.lift, Prog.bind_op, Prog.bind_ret, Prog.pure_eq_ret]
  refine chain (done X K c (tA (0, 3)) rfl rfl (by decide) rfl rfl) ?_
  refine chain (done X K c (tA (1, 3)) rfl rfl (by decide) rfl rfl) ?_
  refine chain (done X K c (tB 0) rfl rfl (by decide) rfl rfl) ?_
  refine chain (done X K c (tB 1) rfl rfl (by decide) rfl rfl) ?_
  refine chain (done X K c (tC (0, 0)) rfl rfl (by decide) rfl rfl) ?_
  exact fin

/-- Waits for the departure of copies. -/
theorem part30 {Kt} :
    iprop(St X K c 36 36 16 11 ∗ (St X K c 36 36 16 16 -∗ Kt ⟨⟩))
      ⊢ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c) Kt := by
  rw [k0_part30_eq_skeleton]; unfold k0_part30_skel
  simp only [Prog.lift, Prog.bind_op, Prog.bind_ret, Prog.pure_eq_ret]
  refine chain (done X K c (tC (1, 0)) rfl rfl (by decide) rfl rfl) ?_
  refine chain (done X K c (tC (0, 1)) rfl rfl (by decide) rfl rfl) ?_
  refine chain (done X K c (tC (1, 1)) rfl rfl (by decide) rfl rfl) ?_
  refine chain (done X K c (tC (0, 2)) rfl rfl (by decide) rfl rfl) ?_
  refine chain (done X K c (tC (1, 2)) rfl rfl (by decide) rfl rfl) ?_
  exact fin

/-- Waits for the departure of copies. -/
theorem part31 {Kt} :
    iprop(St X K c 36 36 16 16 ∗ (St X K c 36 36 16 21 -∗ Kt ⟨⟩))
      ⊢ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c) Kt := by
  rw [k0_part31_eq_skeleton]; unfold k0_part31_skel
  simp only [Prog.lift, Prog.bind_op, Prog.bind_ret, Prog.pure_eq_ret]
  refine chain (done X K c (tC (0, 3)) rfl rfl (by decide) rfl rfl) ?_
  refine chain (done X K c (tC (1, 3)) rfl rfl (by decide) rfl rfl) ?_
  refine chain (done X K c (tD (0, 0)) rfl rfl (by decide) rfl rfl) ?_
  refine chain (done X K c (tD (1, 0)) rfl rfl (by decide) rfl rfl) ?_
  refine chain (done X K c (tD (0, 1)) rfl rfl (by decide) rfl rfl) ?_
  exact fin

/-- Waits for the departure of copies. -/
theorem part32 {Kt} :
    iprop(St X K c 36 36 16 21 ∗ (St X K c 36 36 16 27 -∗ Kt ⟨⟩))
      ⊢ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c) Kt := by
  rw [k0_part32_eq_skeleton]; unfold k0_part32_skel
  simp only [Prog.lift, Prog.bind_op, Prog.bind_ret, Prog.pure_eq_ret]
  refine chain (done X K c (tD (1, 1)) rfl rfl (by decide) rfl rfl) ?_
  refine chain (done X K c (tD (0, 2)) rfl rfl (by decide) rfl rfl) ?_
  refine chain (done X K c (tD (1, 2)) rfl rfl (by decide) rfl rfl) ?_
  refine chain (done X K c (tD (0, 3)) rfl rfl (by decide) rfl rfl) ?_
  refine chain (done X K c (tD (1, 3)) rfl rfl (by decide) rfl rfl) ?_
  refine chain (done X K c (tE 0) rfl rfl (by decide) rfl rfl) ?_
  exact fin

/-- Waits for the departure of copies. -/
theorem part33 {Kt} :
    iprop(St X K c 36 36 16 27 ∗ (St X K c 36 36 16 33 -∗ Kt ⟨⟩))
      ⊢ wp frame (wpE (defs₀ (F := F)) 𝒱₀ (c : Thread nD τ) none) Set.univ (k0_part33 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c) Kt := by
  rw [k0_part33_eq_skeleton]; unfold k0_part33_skel
  simp only [Prog.lift, Prog.bind_op, Prog.bind_ret, Prog.pure_eq_ret]
  refine chain (done X K c (tE 1) rfl rfl (by decide) rfl rfl) ?_
  refine chain (done X K c (tG (0, 0)) rfl rfl (by decide) rfl rfl) ?_
  refine chain (done X K c (tG (1, 0)) rfl rfl (by decide) rfl rfl) ?_
  refine chain (done X K c (tG (0, 1)) rfl rfl (by decide) rfl rfl) ?_
  refine chain (done X K c (tG (1, 1)) rfl rfl (by decide) rfl rfl) ?_
  refine chain (done X K c (tG (0, 2)) rfl rfl (by decide) rfl rfl) ?_
  exact fin

end

end Cert.KernelIdealProof

end
-- ==== Proof.KernelIdeal.Cut.lean ====
/-
The whole buffers cut into the pieces the kernel moves, and put together again.
-/
module

public import proofs.«01_k».proof.Proof.KernelIdeal.Parts2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The input and the output -/

/-- The pieces a device cuts its input and its output into. -/
abbrev Cut : Type := Pc ⊕ Pc ⊕ Side ⊕ Pc
def cut (c : Dev nD) : Cut → Finset S512x512.Idx
  | .inl p => rows2 p.1 (s2 p.1 c + 32 * p.2.val) 32
  | .inr (.inl p) => rows2 p.1 (r2 p.1 c + 32 * p.2.val) 32
  | .inr (.inr (.inl σ)) => rows2 σ (s1 σ c + k1 σ c) 128
  | .inr (.inr (.inr p)) => rows2 p.1 (s1 p.1 c + f1 p.1 c + 32 * p.2.val) 32

theorem cut_disj (c : Dev nD) (t t' : Cut) (h : t ≠ t') : Disjoint (cut c t) (cut c t') := by
  refine Finset.disjoint_left.mpr fun x hx hx' => h ?_
  rcases t with ⟨σ, i⟩ | ⟨σ, i⟩ | σ | ⟨σ, i⟩ <;> rcases t' with ⟨σ', i'⟩ | ⟨σ', i'⟩ | σ' | ⟨σ', i'⟩ <;>
    (dsimp only [cut] at hx hx'
     rw [mem_rows2] at hx hx'
     obtain rfl : σ = σ' := Fin.ext (by omega)
     have := hf_le σ c
     have := qt_le σ c
     simp only [s2, r2, s1, k1, f1] at hx hx'
     first
       | omega
       | rfl
       | (obtain rfl : i = i' := Fin.ext (by omega)
          rfl))

theorem cut_univ (c : Dev nD) : (Finset.univ : Finset Cut).biUnion (cut c) = Finset.univ := by
  ext x
  simp only [Finset.mem_biUnion, Finset.mem_univ, _root_.true_and, iff_true]
  have h0 := lt2_0 x
  have h1 := lt2_1 x
  obtain ⟨σ, hσ⟩ : ∃ σ : Side, σ.val = (x 1).val / 256 := ⟨⟨(x 1).val / 256, by omega⟩, rfl⟩
  obtain ⟨i, hi⟩ : ∃ i : Fin 4, i.val = (x 0).val % 128 / 32 := ⟨⟨(x 0).val % 128 / 32, by omega⟩, rfl⟩
  have := hf_le σ c
  have := qt_le σ c
  by_cases hh : (x 0).val / 256 = hf σ c <;> by_cases hq : (x 0).val / 128 % 2 = qt σ c
  · refine ⟨.inr (.inl (σ, i)), ?_⟩
    dsimp only [cut]; rw [mem_rows2]; unfold r2; dsimp only; omega
  · refine ⟨.inl (σ, i), ?_⟩
    dsimp only [cut]; rw [mem_rows2]; unfold s2; dsimp only; omega
  · refine ⟨.inr (.inr (.inl σ)), ?_⟩
    dsimp only [cut]; rw [mem_rows2]; unfold s1 k1; omega
  · refine ⟨.inr (.inr (.inr (σ, i))), ?_⟩
    dsimp only [cut]; rw [mem_rows2]; unfold s1 f1; dsimp only; omega

section
variable (X : Dev nD → S512x512.Idx → F .f32) (c : Dev nD)

/-- The input is its pieces. -/
theorem x_cut : ((c : Thread nD τ).loc cc0_stg0_0 ↦{fullShare} X c : sProp 𝕄)
    = iprop((bigSep Finset.univ fun p : Pc => xs X c p) ∗ (bigSep Finset.univ fun p : Pc => xr X c p)
      ∗ (bigSep Finset.univ fun σ : Side => xP X c σ (s1 σ c + k1 σ c) 128)
      ∗ (bigSep Finset.univ fun p : Pc => xP X c p.1 (s1 p.1 c + f1 p.1 c + 32 * p.2.val) 32)) := by
  have h := pointsTo_biUnion (Val := Elt F) (Ix := Unit) (Name := ℕ) (U := UU) (Lvl := ℕ) (ℓ := (c : Thread nD τ).loc cc0_stg0_0) (q := fullShare) (f := X c) (Finset.univ : Finset Cut) (cut c)
    fun t _ t' _ ht => cut_disj c t t' ht
  rw [cut_univ] at h
  refine h.trans ?_
  rw [bigSep_univ_sum, bigSep_univ_sum, bigSep_univ_sum]
  rfl

/-- The output is its pieces. -/
theorem o_cut (f : S512x512.Idx → F .f32) : ((c : Thread nD τ).loc cc0_stg1_0 ↦{fullShare} f : sProp 𝕄)
    = iprop((bigSep Finset.univ fun p : Pc => oP c fullShare p.1 (s2 p.1 c + 32 * p.2.val) 32 f)
      ∗ (bigSep Finset.univ fun p : Pc => oP c fullShare p.1 (r2 p.1 c + 32 * p.2.val) 32 f)
      ∗ (bigSep Finset.univ fun σ : Side => oP c fullShare σ (s1 σ c + k1 σ c) 128 f)
      ∗ (bigSep Finset.univ fun p : Pc => oP c fullShare p.1 (s1 p.1 c + f1 p.1 c + 32 * p.2.val) 32 f)) := by
  have h := pointsTo_biUnion (Val := Elt F) (Ix := Unit) (Name := ℕ) (U := UU) (Lvl := ℕ) (ℓ := (c : Thread nD τ).loc cc0_stg1_0) (q := fullShare) (f := f) (Finset.univ : Finset Cut) (cut c)
    fun t _ t' _ ht => cut_disj c t t' ht
  rw [cut_univ] at h
  refine h.trans ?_
  rw [bigSep_univ_sum, bigSep_univ_sum, bigSep_univ_sum]
  rfl

end

/-! ## The receive buffers -/

def cut3 (c : Dev nD) : Pc ⊕ Side → Finset S2x256x256.Idx
  | .inl p => rows3 p.1 (f1 p.1 c + 32 * p.2.val) 32
  | .inr σ => rows3 σ (k1 σ c) 128

theorem cut3_disj (c : Dev nD) (t t' : Pc ⊕ Side) (h : t ≠ t') : Disjoint (cut3 c t) (cut3 c t') := by
  refine Finset.disjoint_left.mpr fun x hx hx' => h ?_
  rcases t with ⟨σ, i⟩ | σ <;> rcases t' with ⟨σ', i'⟩ | σ' <;>
    (dsimp only [cut3] at hx hx'
     rw [mem_rows3] at hx hx'
     obtain rfl : σ = σ' := Fin.ext (by omega)
     have := qt_le σ c
     simp only [k1, f1] at hx hx'
     first
       | omega
       | rfl
       | (obtain rfl : i = i' := Fin.ext (by omega)
          rfl))

theorem cut3_univ (c : Dev nD) : (Finset.univ : Finset (Pc ⊕ Side)).biUnion (cut3 c) = Finset.univ := by
  ext x
  simp only [Finset.mem_biUnion, Finset.mem_univ, _root_.true_and, iff_true]
  have h0 : (x 0).val < 2 := (x 0).isLt
  have h1 : (x 1).val < 256 := (x 1).isLt
  obtain ⟨σ, hσ⟩ : ∃ σ : Side, σ.val = (x 0).val := ⟨⟨(x 0).val, h0⟩, rfl⟩
  obtain ⟨i, hi⟩ : ∃ i : Fin 4, i.val = (x 1).val % 128 / 32 := ⟨⟨(x 1).val % 128 / 32, by omega⟩, rfl⟩
  have := qt_le σ c
  by_cases hq : (x 1).val / 128 = qt σ c
  · refine ⟨.inr σ, ?_⟩
    dsimp only [cut3]; rw [mem_rows3]; unfold k1; omega
  · refine ⟨.inl (σ, i), ?_⟩
    dsimp only [cut3]; rw [mem_rows3]; unfold f1; dsimp only; omega

def cut4 (p : Pc) : Finset S2x128x256.Idx := rows4 p.1 (32 * p.2.val) 32

theorem cut4_disj (t t' : Pc) (h : t ≠ t') : Disjoint (cut4 t) (cut4 t') := by
  refine Finset.disjoint_left.mpr fun x hx hx' => h ?_
  unfold cut4 at hx hx'
  rw [mem_rows4] at hx hx'
  exact Prod.ext (Fin.ext (by omega)) (Fin.ext (by omega))

theorem cut4_univ : (Finset.univ : Finset Pc).biUnion cut4 = Finset.univ := by
  ext x
  simp only [Finset.mem_biUnion, Finset.mem_univ, _root_.true_and, iff_true]
  have h0 : (x 0).val < 2 := (x 0).isLt
  have h1 : (x 1).val < 128 := (x 1).isLt
  refine ⟨(⟨(x 0).val, h0⟩, ⟨(x 1).val / 32, by omega⟩), ?_⟩
  unfold cut4; rw [mem_rows4]; dsimp only; omega

section
variable (c : Dev nD)

/-- The first receive buffer is its pieces. -/
theorem b1_cut (f : S2x256x256.Idx → F .f32) : ((c : Thread nD τ).loc cc0_scratch0 ↦{fullShare} f : sProp 𝕄)
    = iprop((bigSep Finset.univ fun p : Pc => (c : Thread nD τ).loc cc0_scratch0 ↦[rows3 p.1 (f1 p.1 c + 32 * p.2.val) 32]{fullShare} f)
      ∗ (bigSep Finset.univ fun σ : Side => (c : Thread nD τ).loc cc0_scratch0 ↦[rows3 σ (k1 σ c) 128]{fullShare} f)) := by
  have h := pointsTo_biUnion (Val := Elt F) (Ix := Unit) (Name := ℕ) (U := UU) (Lvl := ℕ) (ℓ := (c : Thread nD τ).loc cc0_scratch0) (q := fullShare) (f := f) (Finset.univ : Finset (Pc ⊕ Side)) (cut3 c)
    fun t _ t' _ ht => cut3_disj c t t' ht
  rw [cut3_univ] at h
  refine h.trans ?_
  rw [bigSep_univ_sum]
  rfl

/-- The second receive buffer is its pieces. -/
theorem b2_cut (f : S2x128x256.Idx → F .f32) : ((c : Thread nD τ).loc cc0_scratch1 ↦{fullShare} f : sProp 𝕄)
    = bigSep Finset.univ fun p : Pc => (c : Thread nD τ).loc cc0_scratch1 ↦[rows4 p.1 (32 * p.2.val) 32]{fullShare} f := by
  have h := pointsTo_biUnion (Val := Elt F) (Ix := Unit) (Name := ℕ) (U := UU) (Lvl := ℕ) (ℓ := (c : Thread nD τ).loc cc0_scratch1) (q := fullShare) (f := f) (Finset.univ : Finset Pc) cut4
    fun t _ t' _ ht => cut4_disj t t' ht
  rw [cut4_univ] at h
  exact h

end

/-- A family over the transfers, phase by phase. -/
theorem tr_cut (Φ : Tr → sProp 𝕄) : bigSep Finset.univ Φ
    = iprop((bigSep Finset.univ fun p : Pc => Φ (tA p)) ∗ (bigSep Finset.univ fun σ : Side => Φ (tB σ)) ∗ (bigSep Finset.univ fun p : Pc => Φ (tC p))
      ∗ (bigSep Finset.univ fun p : Pc => Φ (tD p)) ∗ (bigSep Finset.univ fun σ : Side => Φ (tE σ)) ∗ (bigSep Finset.univ fun p : Pc => Φ (tG p))) := by
  rw [bigSep_univ_sum, bigSep_univ_sum, bigSep_univ_sum, bigSep_univ_sum, bigSep_univ_sum]
  rfl

end Cert.KernelIdealProof

end
-- ==== Proof.KernelIdeal.Ends.lean ====
/-
The handshake before the first transfer, and what the device holds after the last.
-/
module

public import proofs.«01_k».proof.Proof.KernelIdeal.Cut

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → S512x512.Idx → F .f32) (K : Dev nD × Cl → ℕ) (c : Dev nD)

/-! ## What goes over with the barrier units -/

omit [FloatOps F] in
/-- A device's landing places, sorted by the neighbour whose transfers land there. -/
theorem give_dst : (bigSep Finset.univ fun k : Tr => dstA (F := F) c k) ⊢ iprop(barPay (nbr 0 c) 0 ∗ barPay (nbr 1 c) 1) := by
  unfold barPay
  rw [← bigSep_sep', nbr_nbr, nbr_nbr]
  refine bigSep_mono fun k _ => ?_
  rcases (show dir k = 0 ∨ dir k = 1 by revert k; decide) with h | h <;> rw [h]
  · rw [if_pos rfl, if_neg (by decide)]
    show dstA c k ⊢ iprop(dstA c k ∗ emp)
    iintro H
    isplitl [H]; · iexact H
    iempintro
  · rw [if_neg (by decide), if_pos rfl]
    show dstA c k ⊢ iprop(emp ∗ dstA c k)
    iintro H
    isplitr [H]; · iempintro
    iexact H

omit [FloatOps F] in
/-- The places a device's transfers land on, from both neighbours. -/
theorem get_dst : iprop(barPay (F := F) c 0 ∗ barPay c 1) ⊢ bigSep Finset.univ fun k : Tr => dstA (F := F) (tgt c k) k := by
  unfold barPay
  rw [← bigSep_sep']
  refine bigSep_mono fun k _ => ?_
  unfold tgt
  rcases (show dir k = 0 ∨ dir k = 1 by revert k; decide) with h | h <;> rw [h]
  · rw [if_pos rfl, if_neg (by decide)]
    show iprop(dstA (nbr 0 c) k ∗ emp) ⊢ dstA (nbr 0 c) k
    iintro ⟨H, -⟩
    iexact H
  · rw [if_neg (by decide), if_pos rfl]
    show iprop(emp ∗ dstA (nbr 1 c) k) ⊢ dstA (nbr 1 c) k
    iintro ⟨-, H⟩
    iexact H

/-! ## The handshake -/

/-- What a device starts its transfers from, besides the landing places. -/
def core : sProp 𝕄 :=
  iprop((bigSep Finset.univ fun k : Tr => dutyTok ER (sendCell c k) 0 0) ∗ (bigSep Finset.univ fun k : Tr => dutyTok ER (recvCell (tgt c k) k) 0 0)
    ∗ (bigSep Finset.univ fun k : Tr => srcX X c k) ∗ (bigSep Finset.univ fun k : Tr => recvIn c k) ∗ (bigSep Finset.univ fun k : Tr => sendAt c k)
    ∗ (bigSep Finset.univ fun p : Pc => xs X c p) ∗ (bigSep Finset.univ fun p : Pc => xr X c p)
    ∗ (bigSep Finset.univ fun p : Pc => osA c p) ∗ (bigSep Finset.univ fun p : Pc => orA c p))

/-- Before the handshake. -/
def Hs₀ : sProp 𝕄 :=
  iprop(recs X K ∗ levAts L lv ∗ (∃ W, owes (c : Thread nD τ) (O₀ c) W) ∗ cred (tallyAt (barCell c) () 2) ∗ atPos ER (barCell c) 0 ∅ 0
    ∗ dutyTok ER (barCell (nbr 0 c)) 0 0 ∗ dutyTok ER (barCell (nbr 1 c)) 0 1 ∗ barPay (nbr 0 c) 0 ∗ barPay (nbr 1 c) 1 ∗ core X c)
/-- After the first signal. -/
def Hs₁ : sProp 𝕄 :=
  iprop(recs X K ∗ levAts L lv ∗ (∃ W, owes (c : Thread nD τ) (O₁ c) W) ∗ cred (tallyAt (barCell c) () 2) ∗ atPos ER (barCell c) 0 ∅ 0
    ∗ dutyTok ER (barCell (nbr 1 c)) 0 1 ∗ barPay (nbr 1 c) 1 ∗ core X c)

/-- The state before the first transfer. -/
theorem begin_St : iprop(recs X K ∗ levAts L lv ∗ owesE c 0 ∗ (bigSep Finset.univ fun k : Tr => dstA (tgt c k) k) ∗ core X c) ⊢ St X K c 0 0 0 0 := by
  unfold St Mix core
  rw [live_all (A := sendIn X c) (fun k => Nat.zero_le _), live_all (A := recvIn c) (fun k => Nat.zero_le _),
    live_none (A := recvOut X c) (fun k => Nat.not_lt_zero _), live_all (A := sendAt c) (fun k => Nat.zero_le _),
    live_none (A := sendCr c) (fun k h => Nat.not_lt_zero _ h.2), live_none (A := sendOut X c) (fun k => Nat.not_lt_zero _),
    live_all (A := xs X c) (fun k => trivial), live_all (A := xr X c) (fun k => trivial),
    live_all (A := osA c) (fun k => Nat.zero_le _), live_all (A := orA c) (fun k => Nat.zero_le _),
    live_none (A := osP X c) (fun k h => Nat.not_lt_zero _ h.1), live_none (A := onA c) (fun k h => Nat.not_lt_zero _ h.1),
    live_none (A := osT X c) (fun k h => Nat.not_lt_zero _ h.1), live_none (A := orT X c) (fun k h => Nat.not_lt_zero _ h.1),
    live_none (A := orH X c) (fun k h => Nat.not_lt_zero _ h.1)]
  have e : (bigSep Finset.univ fun k : Tr => sendIn X c k)
      = iprop((bigSep Finset.univ fun k : Tr => dutyTok ER (sendCell c k) 0 0) ∗ (bigSep Finset.univ fun k : Tr => dutyTok ER (recvCell (tgt c k) k) 0 0)
        ∗ (bigSep Finset.univ fun k : Tr => dstA (tgt c k) k) ∗ (bigSep Finset.univ fun k : Tr => srcX X c k)) := by
    unfold sendIn
    rw [bigSep_sep', bigSep_sep', bigSep_sep']
  rw [show (bigSep Finset.univ (sendIn X c)) = _ from e]
  iintro ⟨HR, HL, HO, HD, H1, H2, H3, H4, H5, H6, H7, H8, H9⟩
  isplitl [HR]; · iexact HR
  isplitl [HL]; · iexact HL
  isplitl [HO]; · iexact HO
  isplitl [H1 H2 HD H3]
  · isplitl [H1]; · iexact H1
    isplitl [H2]; · iexact H2
    isplitl [HD]; · iexact HD
    iexact H3
  isplitl [H4]; · iexact H4
  isplitr; · iempintro
  isplitl [H5]; · iexact H5
  isplitr; · iempintro
  isplitr; · iempintro
  isplitl [H6]; · iexact H6
  isplitl [H7]; · iexact H7
  isplitl [H8]; · iexact H8
  isplitl [H9]; · iexact H9
  isplitr; · iempintro
  isplitr; · iempintro
  isplitr; · iempintro
  isplitr; · iempintro
  iempintro

/-- The first signal, to the neighbour across direction 0. -/
theorem part1 {R : sProp 𝕄} {Kt}
    (h : ∀ v19 v30 v31 v32 : BitVec 32, iprop(Hs₁ X K c ∗ R) ⊢ Kt ⟨c, v19, v30, v31, v32, SemArray.scalar (sig.barrier 0 rfl), 1#32⟩) :
    iprop(Hs₀ X K c ∗ R)
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3) Kt := by
  rw [k0_part1_eq_skeleton]; unfold k0_part1_skel
  simp only [semSignalWord, semWaitWord, Prog.lift, Prog.bind_op, Prog.bind_ret, Prog.pure_eq_ret, wp_deviceId]
  simp only [dev1_eq c]
  unfold Hs₀
  iintro ⟨⟨#HR, #HL, ⟨%W, HO⟩, Hcr, Hat, Ht0, Ht1, Hp0, Hp1, Hcore⟩, HX⟩
  ihave Hc := (recs_bar X K (nbr 0 c)) $$ HR
  icases Hc with ⟨#Hc, #Hr⟩
  iapply (Rounds.wp_signal 𝒱₀ ER (Rd X) (c : Thread nD τ) none (dst := (nbr 0 c : Thread nD τ)) (κ := K (nbr 0 c, .inl ()))
      (d := 0) (by rw [duties_bar]; exact Finset.mem_univ _) ((amount_bar X (nbr 0 c) 0).trans (by decide)) () (O₁ c) rfl)
    $$ [HO Ht0 Hp0]
  · isplitr; · iexact Hc
    isplitl [HO]; · iexact HO
    isplitl [Ht0]; · iexact Ht0
    isplitl [Hp0]; · rw [payload_bar]; iexact Hp0
    iexact Hr
  iintro HO
  rw [wp_ret]
  imodintro
  iapply (h _ _ _ _)
  unfold Hs₁
  isplitr [HX]
  · isplitr; · iexact HR
    isplitr; · iexact HL
    isplitl [HO]; · iexists W; iexact HO
    isplitl [Hcr]; · iexact Hcr
    isplitl [Hat]; · iexact Hat
    isplitl [Ht1]; · iexact Ht1
    isplitl [Hp1]; · iexact Hp1
    iexact Hcore
  · iexact HX

/-- The second signal, and the wait for both neighbours. -/
theorem part2 (v19 v30 v31 v32 : BitVec 32) {R : sProp 𝕄} {Kt}
    (h : ∀ v40 v42 v45 v48 v50 v53 v55 v57 v58 v59 : BitVec 32, iprop(St X K c 0 0 0 0 ∗ semVal (barCell c) 0 ∗ R) ⊢ Kt ⟨v40, v42, v45, v48, v50, v53, v55, v57, v58, v59⟩) :
    iprop(Hs₁ X K c ∗ R)
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 c v19 v30 v31 v32 (SemArray.scalar (sig.barrier 0 rfl)) 1#32) Kt := by
  rw [k0_part2_eq_skeleton]; unfold k0_part2_skel
  simp only [semSignalWord, semWaitWord, Prog.lift, Prog.bind_op, Prog.bind_ret, Prog.pure_eq_ret]
  simp only [dev2_eq c]
  unfold Hs₁
  iintro ⟨⟨#HR, #HL, ⟨%W, HO⟩, Hcr, Hat, Ht1, Hp1, Hcore⟩, HX⟩
  ihave Hc := (recs_bar X K (nbr 1 c)) $$ HR
  icases Hc with ⟨#Hc, #Hr⟩
  iapply (Rounds.wp_signal 𝒱₀ ER (Rd X) (c : Thread nD τ) none (dst := (nbr 1 c : Thread nD τ)) (κ := K (nbr 1 c, .inl ()))
      (d := 1) (by rw [duties_bar]; exact Finset.mem_univ _) ((amount_bar X (nbr 1 c) 1).trans (by decide)) () (Ow 0 c) rfl)
    $$ [HO Ht1 Hp1]
  · isplitr; · iexact Hc
    isplitl [HO]; · iexact HO
    isplitl [Ht1]; · iexact Ht1
    isplitl [Hp1]; · rw [payload_bar]; iexact Hp1
    iexact Hr
  iintro HO
  ihave Hc := (recs_bar X K c) $$ HR
  icases Hc with ⟨#Hcc, #Hrc⟩
  iapply (Rounds.wp_wait_rest_token 𝒱₀ ER (Rd X) (c : Thread nD τ) none (κ := K (c, .inl ()))
      (wpE_semWait_eq 𝒱₀ (c : Thread nD τ) none Set.univ) (Set.mem_univ _) () (O := Ow 0 c) (W := W) (R := 0) (m := 0) (T := ∅)
      (by rw [expect_bar]; decide)) $$ [Hcr HO Hat]
  · isplitr; · iexact Hcc
    isplitl [Hcr]; · iexact Hcr
    isplitl [HO]; · iexact HO
    isplitr; · iapply (mayWait_Ow 0 1 c (.reg barS) rfl (by decide)); iexact HL
    iexact Hat
  iintro ⟨HO, Hat, -, Hpay⟩
  ihave Hpay := (Entails.of_eq (rest_bar X c)) $$ Hpay
  ihave Hdst := (get_dst (F := F) c) $$ Hpay
  imod (Rounds.cell_close ER (Rd X) (Set.mem_univ (K (c, .inl ()))) (fun h => h) (R := 0 + 1) (duties_later X (barCell c))) $$ [Hat] with Hz
  · isplitr; · iexact Hcc
    iexact Hat
  rw [wp_ret]
  imodintro
  iapply (h _ _ _ _ _ _ _ _ _ _)
  isplitl [HO Hdst Hcore]
  · iapply (begin_St X K c)
    isplitr; · iexact HR
    isplitr; · iexact HL
    isplitl [HO]; · unfold owesE; iexists _; iexact HO
    isplitl [Hdst]; · iexact Hdst
    iexact Hcore
  isplitl [Hz]; · iexact Hz
  iexact HX

/-! ## The end -/

/-- Two halves of the finished pieces make them whole. -/
theorem join_r : iprop((bigSep Finset.univ fun p : Pc => oP c fullShare.left p.1 (r2 p.1 c + 32 * p.2.val) 32 (Tt X))
      ∗ (bigSep Finset.univ fun σ : Side => oP c fullShare.right σ (r2 σ c) 128 (Tt X)))
    ⊢ bigSep Finset.univ fun p : Pc => oP c fullShare p.1 (r2 p.1 c + 32 * p.2.val) 32 (Tt X) := by
  rw [bigSep_univ_prod, bigSep_univ_prod, ← bigSep_sep']
  refine bigSep_mono fun σ _ => ?_
  show iprop((bigSep Finset.univ fun i : Fin 4 => oP c fullShare.left σ (r2 σ c + 32 * i.val) 32 (Tt X)) ∗ oP c fullShare.right σ (r2 σ c) 128 (Tt X))
    ⊢ bigSep Finset.univ fun i : Fin 4 => oP c fullShare σ (r2 σ c + 32 * i.val) 32 (Tt X)
  rw [oP_four, oP_four]
  unfold oP
  exact (pointsTo_share (PosShare.mem_left_op_right fullShare)).2

/-- What a device holds at its end: nothing owed, its input as it was, its output the total, the receive
buffers, and its semaphores at zero. -/
theorem end_St : St X K c 36 36 16 36 ⊢ iprop((∃ W, owes (c : Thread nD τ) 0 W)
    ∗ ((c : Thread nD τ).loc cc0_stg0_0 ↦{fullShare} X c) ∗ ((c : Thread nD τ).loc cc0_stg1_0 ↦{fullShare} Tt X)
    ∗ (∃ f : S2x256x256.Idx → F .f32, (c : Thread nD τ).loc cc0_scratch0 ↦{fullShare} f) ∗ (∃ f : S2x128x256.Idx → F .f32, (c : Thread nD τ).loc cc0_scratch1 ↦{fullShare} f)
    ∗ (bigSep Finset.univ fun k : Tr => semVal (sendCell c k) 0) ∗ (bigSep Finset.univ fun k : Tr => semVal (recvCell c k) 0)) := by
  unfold St owesE
  rw [live_all (A := recvOut X c) idx_lt, live_all (A := sendOut X c) idx_lt, live_all (A := xs X c) (fun k => trivial), live_all (A := xr X c) (fun k => trivial), Ow_end]
  have eR : bigSep Finset.univ (recvOut X c) = iprop((bigSep Finset.univ fun k : Tr => semVal (recvCell c k) 0) ∗ bigSep Finset.univ fun k : Tr => recvKeep X c k) := by
    rw [← bigSep_sep']; rfl
  have eS : bigSep Finset.univ (sendOut X c) = iprop((bigSep Finset.univ fun k : Tr => semVal (sendCell c k) 0) ∗ bigSep Finset.univ fun k : Tr => sendPay X c k) := by
    rw [← bigSep_sep']; rfl
  rw [eR, eS, tr_cut (fun k => recvKeep X c k), tr_cut (fun k => sendPay X c k)]
  iintro ⟨-, -, HO, -, -, ⟨HzR, HA, HB, HC, -, HE, HG⟩, -, -, ⟨HzS, HsA, HsB, -, HsD, HsE, HsG⟩, Hxs, Hxr, -⟩
  isplitl [HO]; · iexact HO
  isplitl [Hxs Hxr HsA HsB]
  · rw [x_cut X c]
    isplitl [Hxs]; · iexact Hxs
    isplitl [Hxr]; · iexact Hxr
    isplitl [HsB]; · iexact HsB
    iexact HsA
  isplitl [HsG HsD HsE HE HG]
  · rw [o_cut c (Tt X)]
    isplitl [HsG]; · iexact HsG
    isplitl [HsD HsE]
    · iapply (join_r X c)
      isplitl [HsD]; · iexact HsD
      iexact HsE
    isplitl [HE]; · iexact HE
    iexact HG
  isplitl [HA HB]
  · iexists (B1 X c)
    rw [b1_cut c (B1 X c)]
    isplitl [HA]; · iexact HA
    iexact HB
  isplitl [HC]
  · iexists (B2 X c)
    rw [b2_cut c (B2 X c)]
    iexact HC
  isplitl [HzS]; · iexact HzS
  iexact HzR

/-- What the device starts from, cut into pieces. -/
theorem begin_mem : iprop(((c : Thread nD τ).loc cc0_stg0_0 ↦{fullShare} X c) ∗ (∃ f : S512x512.Idx → F .f32, (c : Thread nD τ).loc cc0_stg1_0 ↦{fullShare} f)
      ∗ (∃ f : S2x256x256.Idx → F .f32, (c : Thread nD τ).loc cc0_scratch0 ↦{fullShare} f) ∗ (∃ f : S2x128x256.Idx → F .f32, (c : Thread nD τ).loc cc0_scratch1 ↦{fullShare} f))
    ⊢ iprop((bigSep Finset.univ fun k : Tr => srcX X c k) ∗ (bigSep Finset.univ fun p : Pc => xs X c p) ∗ (bigSep Finset.univ fun p : Pc => xr X c p)
      ∗ (bigSep Finset.univ fun p : Pc => osA c p) ∗ (bigSep Finset.univ fun p : Pc => orA c p) ∗ (bigSep Finset.univ fun k : Tr => dstA c k)) := by
  have hA (σ : Side) (R n : ℕ) (f : S512x512.Idx → F .f32) : oP c fullShare σ R n f ⊢ oA c σ R n := by unfold oA; iintro H; iexists f; iexact H
  have hB (σ : Side) (R n : ℕ) (f : S2x256x256.Idx → F .f32) : ((c : Thread nD τ).loc cc0_scratch0 ↦[rows3 σ R n]{fullShare} f) ⊢ b1A c σ R n := by unfold b1A; iintro H; iexists f; iexact H
  have hC (σ : Side) (R n : ℕ) (f : S2x128x256.Idx → F .f32) : ((c : Thread nD τ).loc cc0_scratch1 ↦[rows4 σ R n]{fullShare} f) ⊢ b2A c σ R n := by unfold b2A; iintro H; iexists f; iexact H
  rw [x_cut X c, tr_cut (fun k => srcX X c k), tr_cut (fun k => dstA c k)]
  iintro ⟨⟨Hxs, Hxr, HxB, HxA⟩, ⟨%fo, Ho⟩, ⟨%g1, H1⟩, ⟨%g2, H2⟩⟩
  ihave Ho := (Entails.of_eq (o_cut c fo)) $$ Ho
  ihave H1 := (Entails.of_eq (b1_cut c g1)) $$ H1
  ihave H2 := (Entails.of_eq (b2_cut c g2)) $$ H2
  icases Ho with ⟨Hos, Hor, HoE, HoG⟩
  icases H1 with ⟨H1A, H1B⟩
  isplitl [HxA HxB]
  · isplitl [HxA]; · iexact HxA
    isplitl [HxB]; · iexact HxB
    isplitr; · rw [show (bigSep Finset.univ fun p : Pc => srcX X c (tC p)) = iprop(emp) from bigSep_emp_const _]; iempintro
    isplitr; · rw [show (bigSep Finset.univ fun p : Pc => srcX X c (tD p)) = iprop(emp) from bigSep_emp_const _]; iempintro
    isplitr; · rw [show (bigSep Finset.univ fun p : Side => srcX X c (tE p)) = iprop(emp) from bigSep_emp_const _]; iempintro
    rw [show (bigSep Finset.univ fun p : Pc => srcX X c (tG p)) = iprop(emp) from bigSep_emp_const _]; iempintro
  isplitl [Hxs]; · iexact Hxs
  isplitl [Hxr]; · iexact Hxr
  isplitl [Hos]
  · iapply (show (bigSep Finset.univ fun p : Pc => oP c fullShare p.1 (s2 p.1 c + 32 * p.2.val) 32 fo) ⊢ bigSep Finset.univ fun p : Pc => osA c p from bigSep_mono fun p _ => hA p.1 _ _ fo); iexact Hos
  isplitl [Hor]
  · iapply (show (bigSep Finset.univ fun p : Pc => oP c fullShare p.1 (r2 p.1 c + 32 * p.2.val) 32 fo) ⊢ bigSep Finset.univ fun p : Pc => orA c p from bigSep_mono fun p _ => hA p.1 _ _ fo); iexact Hor
  isplitl [H1A]
  · iapply (show (bigSep Finset.univ fun p : Pc => (c : Thread nD τ).loc cc0_scratch0 ↦[rows3 p.1 (f1 p.1 c + 32 * p.2.val) 32]{fullShare} g1) ⊢ bigSep Finset.univ fun p : Pc => dstA c (tA p) from bigSep_mono fun p _ => hB p.1 _ _ g1); iexact H1A
  isplitl [H1B]
  · iapply (show (bigSep Finset.univ fun σ : Side => (c : Thread nD τ).loc cc0_scratch0 ↦[rows3 σ (k1 σ c) 128]{fullShare} g1) ⊢ bigSep Finset.univ fun σ : Side => dstA c (tB σ) from bigSep_mono fun σ _ => hB σ _ _ g1); iexact H1B
  isplitl [H2]
  · iapply (show (bigSep Finset.univ fun p : Pc => (c : Thread nD τ).loc cc0_scratch1 ↦[rows4 p.1 (32 * p.2.val) 32]{fullShare} g2) ⊢ bigSep Finset.univ fun p : Pc => dstA c (tC p) from bigSep_mono fun p _ => hC p.1 _ _ g2); iexact H2
  isplitr; · rw [show (bigSep Finset.univ fun p : Pc => dstA (F := F) c (tD p)) = iprop(emp) from bigSep_emp_const _]; iempintro
  isplitl [HoE]
  · iapply (show (bigSep Finset.univ fun σ : Side => oP c fullShare σ (s1 σ c + k1 σ c) 128 fo) ⊢ bigSep Finset.univ fun σ : Side => dstA c (tE σ) from bigSep_mono fun σ _ => hA σ _ _ fo); iexact HoE
  iapply (show (bigSep Finset.univ fun p : Pc => oP c fullShare p.1 (s1 p.1 c + f1 p.1 c + 32 * p.2.val) 32 fo) ⊢ bigSep Finset.univ fun p : Pc => dstA c (tG p) from bigSep_mono fun p _ => hA p.1 _ _ fo); iexact HoG

end

end Cert.KernelIdealProof

end
-- ==== Proof.KernelIdeal.Body.lean ====
/-
The kernel's body, from the handshake to the last departure.
-/
module

public import proofs.«01_k».proof.Proof.KernelIdeal.Ends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → S512x512.Idx → F .f32) (K : Dev nD × Cl → ℕ) (c : Dev nD)

/-- One part, then the rest. -/
theorem seq {c : Dev nD} {α β : Type} {A B R : sProp 𝕄} {p : Prog (TpuEff nD τ sig (Elt F) Λ₀ .tc) α} {k : α → Prog (TpuEff nD τ sig (Elt F) Λ₀ .tc) β} {r : α} {Kt : β → sProp 𝕄}
    (h : ∀ Kt : α → sProp 𝕄, iprop(A ∗ (B -∗ Kt r)) ⊢ wp frame (wpE (defs₀ (F := F)) 𝒱₀ (c : Thread nD τ) none) Set.univ p Kt)
    (h' : iprop(B ∗ R) ⊢ wp frame (wpE (defs₀ (F := F)) 𝒱₀ (c : Thread nD τ) none) Set.univ (k r) Kt) :
    iprop(A ∗ R) ⊢ wp frame (wpE (defs₀ (F := F)) 𝒱₀ (c : Thread nD τ) none) Set.univ (p >>= k) Kt := by
  rw [wp_bind]
  exact chain (h _) h'

set_option maxRecDepth 16384 in
set_option maxHeartbeats 4000000 in
/-- The body takes the state before the handshake to the state after the last transfer. -/
theorem sound {Kt : PUnit → sProp 𝕄} :
    iprop(Hs₀ X K c ∗ ((St X K c 36 36 16 36 ∗ semVal (barCell c) 0) -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3) Kt := by
  rw [cc0_body_eq_skeleton]; unfold cc0_body_skel
  rw [wp_bind]
  refine part1 X K c fun v19 v30 v31 v32 => ?_
  rw [wp_bind]
  refine part2 X K c v19 v30 v31 v32 fun v40 v42 v45 v48 v50 v53 v55 v57 v58 v59 => ?_
  refine seq (fun Kt => part3 X K c _ _ _ _ _ _) ?_
  refine seq (fun Kt => part4 X K c _ _ _ _ _ _) ?_
  refine seq (fun Kt => part5 X K c _ _ _ _ _ _ _ _) ?_
  refine seq (fun Kt => part6 X K c _ _ _ _ _ _) ?_
  refine seq (fun Kt => part7 X K c _ _ _ _) ?_
  refine seq (fun Kt => part8 X K c _ _ _ _) ?_
  refine seq (fun Kt => part9 X K c _ _ _ _) ?_
  refine seq (fun Kt => part10 X K c _ _ _ _ _) ?_
  refine seq (fun Kt => part11 X K c _ _ _ _) ?_
  refine seq (fun Kt => part12 X K c _ _ _ _) ?_
  refine seq (fun Kt => part13 X K c _ _ _) ?_
  refine seq (fun Kt => part14 X K c _ _ _ _ _ _ _) ?_
  refine seq (fun Kt => part15 X K c _ _ _ _ _) ?_
  refine seq (fun Kt => part16 X K c _ _ _ _ _) ?_
  refine seq (fun Kt => part17 X K c _ _ _ _) ?_
  refine seq (fun Kt => part18 X K c _ _ _ _ _) ?_
  refine seq (fun Kt => part19 X K c _ _ _) ?_
  refine seq (fun Kt => part20 X K c _ _ _) ?_
  refine seq (fun Kt => part21 X K c _ _ _ _) ?_
  refine seq (fun Kt => part22 X K c _ _ _ _ _) ?_
  refine seq (fun Kt => part23 X K c _ _ _ _ _) ?_
  refine seq (fun Kt => part24 X K c _ _ _ _ _) ?_
  refine seq (fun Kt => part25 X K c _ _ _ _) ?_
  refine seq (fun Kt => part26 X K c _ _) ?_
  refine seq (fun Kt => part27 X K c _ _) ?_
  refine seq (fun Kt => part28 X K c) ?_
  refine seq (fun Kt => part29 X K c) ?_
  refine seq (fun Kt => part30 X K c) ?_
  refine seq (fun Kt => part31 X K c) ?_
  refine seq (fun Kt => part32 X K c) ?_
  refine seq (fun Kt => part33 X K c) ?_
  simp only [Prog.lift, Prog.bind_op, Prog.bind_ret, Prog.pure_eq_ret]
  refine chain (done X K c (tG (1, 2)) rfl rfl (by decide) rfl rfl) ?_
  refine chain (done X K c (tG (0, 3)) rfl rfl (by decide) rfl rfl) ?_
  refine chain (done X K c (tG (1, 3)) rfl rfl (by decide) rfl rfl) ?_
  change iprop(St X K c 36 36 16 36 ∗ semVal (barCell c) 0 ∗ ((St X K c 36 36 16 36 ∗ semVal (barCell c) 0) -∗ Kt ⟨⟩)) ⊢ _
  iintro ⟨H, Hz, Hk⟩
  rw [wp_ret]
  imodintro
  iapply Hk
  isplitl [H] <;> iassumption

end

end Cert.KernelIdealProof

end
-- ==== Proof.KernelIdeal.Oblig.lean ====
/-
What the launch hands the kernel on each device, what the kernel returns, and the proof that the
body makes the one of the other.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

/-- The machine at the start: memory `m`, every counter at zero. -/
abbrev s₀ (m : (ℓ : Loc nD τ sig) → Buf (Elt F) ℓ) (ρ : Dev nD → PrngReg) : MemSt nD τ sig (Elt F) := ⟨m, fun _ => 0, ρ⟩

section
variable (m : (ℓ : Loc nD τ sig) → Buf (Elt F) ℓ) (ρ : Dev nD → PrngReg)

/-- Device `c`'s input, as the kernel reads it. -/
def xstg (c : Dev nD) : S512x512.Idx → F .f32 := (win0_0.blk (0 : Fin 1)).view.read (Elt F) ((s₀ m ρ).mem (win0_0.arr.view.loc (c : Thread nD τ)))

/-- The tokens of the duties device `c` itself performs. -/
def payToks (c : Dev nD) : sProp 𝕄 :=
  iprop(dutyTok ER (barCell (nbr 0 c)) 0 0 ∗ dutyTok ER (barCell (nbr 1 c)) 0 1
    ∗ (bigSep Finset.univ fun k : Tr => dutyTok ER (sendCell c k) 0 0) ∗ (bigSep Finset.univ fun k : Tr => dutyTok ER (recvCell (tgt c k) k) 0 0))
/-- Its position, before round 0, at each of its semaphores. -/
def places (c : Dev nD) : sProp 𝕄 := bigSep Finset.univ fun k : Cl => atPos ER (kcell (c, k)) 0 ∅ 0
/-- The credit for what will be paid on its semaphores. -/
def funds (c : Dev nD) : sProp 𝕄 :=
  iprop(cred (tallyAt (barCell c) () 2) ∗ bigSep Finset.univ fun k : Tr => cred (tallyAt (recvCell c k) () (amt k)))

/-- What device `c` holds of the protocol at the start. -/
def ghost (K : Dev nD × Cl → ℕ) (c : Dev nD) : sProp 𝕄 := iprop(recs (xstg m ρ) K ∗ places c ∗ payToks c)
def start (c : Dev nD) : sProp 𝕄 := iprop((∃ K, ghost m ρ K c) ∗ funds c ∗ levAts L lv)

/-- A buffer of device `c`, whatever it holds. -/
def some (c : Dev nD) (b : Ref sig .tc) : sProp 𝕄 :=
  iprop(∃ f : Buf (Elt F) (((c : Dev nD) : Thread nD τ).loc b), (((c : Thread nD τ).loc b) ↦{fullShare} f))

def Φ₀ (c : Dev nD) : sProp 𝕄 := iprop(start m ρ c ∗ some c cc0_scratch0 ∗ some c cc0_scratch1)
/-- After the body: both receive buffers back, and every semaphore at zero. -/
def Φ₁ (c : Dev nD) : sProp 𝕄 :=
  iprop((some c cc0_scratch0 ∗ some c cc0_scratch1) ∗ (bigSep Finset.univ fun k : Tr => semVal (sendCell c k) 0)
    ∗ (bigSep Finset.univ fun k : Tr => semVal (recvCell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => Tt (xstg m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (Tt (xstg m ρ)))

theorem before_x (c : Dev nD) (d) : (dats m ρ 0 c).before (0 : Fin 2) t0_0 d = xstg m ρ c := by
  unfold Dat.before; rw [if_pos (fetch0_0 _)]; rfl

theorem places_eq (c : Dev nD) : (places c : sProp 𝕄)
    = iprop(atPos ER (barCell c) 0 ∅ 0 ∗ (bigSep Finset.univ fun k : Tr => atPos ER (sendCell c k) 0 ∅ 0)
      ∗ (bigSep Finset.univ fun k : Tr => atPos ER (recvCell c k) 0 ∅ 0)) := by
  unfold places
  rw [bigSep_univ_sum, bigSep_univ_sum, bigSep_univ_eq_bigSepL [()] (by decide) (by decide)]
  rfl

/-- From what the launch hands over, what the handshake starts from. -/
theorem enter (K : Dev nD × Cl → ℕ) (c : Dev nD) :
    iprop(ghost m ρ K c ∗ funds c ∗ levAts L lv ∗ (∃ W, owes (c : Thread nD τ) (O₀ c) W)
      ∗ (((c : Thread nD τ).loc cc0_stg0_0) ↦{fullShare} (xstg m ρ c)) ∗ some c cc0_stg1_0 ∗ some c cc0_scratch0 ∗ some c cc0_scratch1)
      ⊢ Hs₀ (xstg m ρ) K c := by
  unfold ghost funds payToks Hs₀ core some
  rw [places_eq]
  iintro ⟨⟨HR, ⟨HaB, HaS, HaR⟩, Ht0, Ht1, HtS, HtR⟩, ⟨HcB, HcR⟩, HL, HO, Hx, Ho, H1, H2⟩
  ihave HM := (begin_mem (xstg m ρ) c) $$ [Hx Ho H1 H2]
  · isplitl [Hx]; · iexact Hx
    isplitl [Ho]; · iexact Ho
    isplitl [H1]; · iexact H1
    iexact H2
  icases HM with ⟨M1, M2, M3, M4, M5, M6⟩
  ihave HP := (give_dst (F := F) c) $$ M6
  icases HP with ⟨P0, P1⟩
  isplitl [HR]; · iexact HR
  isplitl [HL]; · iexact HL
  isplitl [HO]; · iexact HO
  isplitl [HcB]; · iexact HcB
  isplitl [HaB]; · iexact HaB
  isplitl [Ht0]; · iexact Ht0
  isplitl [Ht1]; · iexact Ht1
  isplitl [P0]; · iexact P0
  isplitl [P1]; · iexact P1
  isplitl [HtS]; · iexact HtS
  isplitl [HtR]; · iexact HtR
  isplitl [M1]; · iexact M1
  isplitl [HaR HcR]
  · unfold recvIn
    rw [bigSep_sep']
    isplitl [HaR]; · iexact HaR
    iexact HcR
  isplitl [HaS]; · iexact HaS
  isplitl [M2]; · iexact M2
  isplitl [M3]; · iexact M3
  isplitl [M4]; · iexact M4
  iexact M5

theorem exit (K : Dev nD × Cl → ℕ) (c : Dev nD) :
    iprop(St (xstg m ρ) K c 36 36 16 36 ∗ semVal (barCell c) 0) ⊢ bodyPost m ρ c := by
  unfold bodyPost Φ₁ some stg Dat.owesAt Pipeline.owesWithin
  rw [show (dats m ρ 0 c).owed t0_0.succ = 0 from rfl]
  iintro ⟨HSt, HB⟩
  ihave H := (end_St (xstg m ρ) K c) $$ HSt
  icases H with ⟨⟨%W, HO⟩, Hx, Ho, H1, H2, HS, HV⟩
  isplitl [H1 H2 HS HV HB]
  · isplitl [H1 H2]
    · isplitl [H1]; · iexact H1
      iexact H2
    isplitl [HS]; · iexact HS
    isplitl [HV]; · iexact HV
    iexact HB
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 8000 in
theorem body_eq : (defs₀ (F := F)) .tc (0 : Fin 1) (t0_0, cfg0.slots t0_0) = cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) cc0_scratch2 cc0_scratch3 := rfl

set_option maxRecDepth 8000 in
/-- The body obligation of the launch on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [body_eq]
  refine BIBase.Entails.trans (Q := bodyPre m ρ c) (Entails.of_eq rfl) ?_
  unfold bodyPre Φ₀ start
  iintro ⟨⟨⟨⟨%K, Hg⟩, Hf, HL⟩, H1, H2⟩, HO, ⟨%d, Hx⟩, ⟨%d', Ho⟩⟩
  iapply (sound (xstg m ρ) K c)
  isplitl
  · iapply (enter m ρ K c)
    unfold stg Dat.owesAt Pipeline.owesWithin
    icases HO with ⟨%W, -, HO⟩
    icases Hx with ⟨%f, %hf, Hx⟩
    icases Ho with ⟨%f', -, Ho⟩
    rw [before_x] at hf
    subst hf
    isplitl [Hg]; · iexact Hg
    isplitl [Hf]; · iexact Hf
    isplitl [HL]; · iexact HL
    isplitl [HO]
    · rw [show (dats m ρ 0 c).owed t0_0.castSucc = O₀ c from rfl]
      iexists W; iexact HO
    isplitl [Hx]; · iexact Hx
    isplitl [Ho]; · unfold some; iexists f'; iexact Ho
    isplitl [H1] <;> iassumption
  · iintro H
    ihave HP := (exit m ρ K c) $$ H
    unfold bodyPost stg
    rw [show (dats m ρ 0 c).Φ t0_0.succ = Φ₁ c from rfl, show (dats m ρ 0 c).after (0 : Fin 2) t0_0 = xstg m ρ c from rfl,
      show (dats m ρ 0 c).after (1 : Fin 2) t0_0 = Tt (xstg m ρ) from rfl]
    iexact HP

end

end Cert.KernelIdealProof

end
-- ==== Proof.KernelIdeal.Launch.lean ====
/-
The launch: the counters at zero become the protocol's semaphores, the credit is dealt, and the run
of the whole machine follows from the body's.
-/
module

public import proofs.«01_k».proof.Proof.KernelIdeal.Oblig
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

/-! ## The semaphores and the tokens -/

theorem csem_inj : Function.Injective csem := by
  rintro (⟨⟩ | k | k) (⟨⟩ | l | l) h
  · rfl
  · cases h
  · cases h
  · cases h
  · have e := congrArg Fin.val (SemLoc.dma.inj h)
    rw [sendSem_val, sendSem_val] at e
    rw [idx_inj (Nat.add_left_cancel e)]
  · have e := congrArg Fin.val (SemLoc.dma.inj h)
    rw [sendSem_val, recvSem_val] at e
    have := idx_lt k; omega
  · cases h
  · have e := congrArg Fin.val (SemLoc.dma.inj h)
    rw [sendSem_val, recvSem_val] at e
    have := idx_lt l; omega
  · have e := congrArg Fin.val (SemLoc.dma.inj h)
    rw [recvSem_val, recvSem_val] at e
    rw [idx_inj (Nat.add_left_cancel e)]

theorem cell_ne {a b : GSem nD τ sig} (h : a.2 ≠ b.2) : a ≠ b := fun e => h (congrArg Prod.snd e)

theorem kcell_inj : Function.Injective kcell := by
  rintro ⟨c, k⟩ ⟨d, l⟩ h
  have h1 : c = d := congrArg (fun g : GSem nD τ sig => g.1.1) h
  have h2 : csem k = csem l := congrArg Prod.snd h
  rw [h1, csem_inj h2]

def ringCells : Finset (GSem nD τ sig) := Finset.univ.map ⟨kcell, kcell_inj⟩

/-- The duties of a device's own semaphores: the barrier's two, and one per send and receive semaphore. -/
abbrev Tk : Type := Side ⊕ Tr ⊕ Tr
def tsem : Tk → Cl × Side
  | .inl d => (.inl (), d)
  | .inr k => (.inr k, 0)
theorem tsem_inj : Function.Injective tsem := by
  rintro (d | k) (e | l) h
  · exact congrArg Sum.inl (congrArg Prod.snd h)
  · cases (congrArg Prod.fst h)
  · cases (congrArg Prod.fst h)
  · exact congrArg Sum.inr (Sum.inr.inj (congrArg Prod.fst h))
def tokOf (ct : Dev nD × Tk) : GSem nD τ sig × ℕ × Side := (kcell (ct.1, (tsem ct.2).1), 0, (tsem ct.2).2)
theorem tokOf_inj : Function.Injective tokOf := by
  rintro ⟨c, t⟩ ⟨d, u⟩ h
  have h1 := kcell_inj (congrArg (fun x : GSem nD τ sig × ℕ × Side => x.1) h)
  have h2 : (tsem t).2 = (tsem u).2 := congrArg (fun x : GSem nD τ sig × ℕ × Side => x.2.2) h
  have h3 : tsem t = tsem u := Prod.ext (congrArg Prod.snd h1) h2
  rw [tsem_inj h3, show c = d from congrArg Prod.fst h1]
def ringToks : Finset (GSem nD τ sig × ℕ × Side) := Finset.univ.map ⟨tokOf, tokOf_inj⟩

def u₀ : UU :=
  (initOf (Pipeline.cells cfgs cellOf_inj) (Pipeline.launchToks cfgs cellOf_inj), initOf ringCells ringToks)

/-- The kernel's own semaphores. -/
def osem (k : Tr ⊕ Tr) : SemLoc sig := csem (.inr k)

theorem ownSemFacts : Pipeline.OwnSemFacts cfg0.spec osem where
  isScoped := by decide
  inj := fun a b h => Sum.inr.inj (csem_inj h)
  disj := by
    have hs : ∀ (w : Fin cfg0.W) (s), ((cfg0.spec w).sem s).val < 2 := fun w s => by fin_cases w <;> fin_cases s <;> decide
    rintro (k | k) w s h
    · have e := congrArg Fin.val (SemLoc.dma.inj h)
      rw [sendSem_val] at e
      have := hs w s; omega
    · have e := congrArg Fin.val (SemLoc.dma.inj h)
      rw [recvSem_val] at e
      have := hs w s; omega

omit [FloatOps F] in
theorem bigSep_Cl (Φ : Cl → sProp 𝕄) : bigSep Finset.univ Φ
    = iprop(Φ (.inl ()) ∗ (bigSep Finset.univ fun k : Tr => Φ (.inr (.inl k))) ∗ bigSep Finset.univ fun k : Tr => Φ (.inr (.inr k))) := by
  rw [bigSep_univ_sum, bigSep_univ_sum, bigSep_univ_eq_bigSepL [()] (by decide) (by decide)]
  rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Tr => semVal (sendCell c k) 0) ∗ bigSep Finset.univ fun k : Tr => semVal (recvCell c k) 0) := by
  unfold Pipeline.ownSems0
  rw [bigSep_univ_sum]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## From the machine's start to the protocol's -/

section
variable (m : (ℓ : Loc nD τ sig) → Buf (Elt F) ℓ) (ρ : Dev nD → PrngReg)

/-- The tokens of device `c`'s own semaphores. -/
def toks (c : Dev nD) : sProp 𝕄 :=
  iprop(dutyTok ER (barCell c) 0 0 ∗ dutyTok ER (barCell c) 0 1
    ∗ (bigSep Finset.univ fun k : Tr => dutyTok ER (sendCell c k) 0 0) ∗ (bigSep Finset.univ fun k : Tr => dutyTok ER (recvCell c k) 0 0))

def G (c : Dev nD) : sProp 𝕄 :=
  iprop((bigSep Finset.univ fun k : Cl => roundState ER (Rd (xstg m ρ)) (kcell (c, k)) 0)
    ∗ places c ∗ (bigSep Finset.univ fun k : Cl => reached ER (kcell (c, k)) 0) ∗ toks c)
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum, bigSep_univ_eq_bigSepL [0, 1] (by decide) (by decide)]
    unfold toks
    exact equiv_iff.mp ⟨BI.sep_assoc, BI.sep_assoc'⟩
  iintro HX
  imod (Rounds.fund ER (Rd (xstg m ρ)) ringCells ringToks) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat']; · iexact Hat'
  isplitl [Hr']; · iexact Hr'
  iexact Htok'

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [ownSems0_eq, unscopedSems0_eq, bigSep_Cl]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (xstg m ρ)) κ (kcell (c, k))))
          ∗ places c ∗ (bigSep Finset.univ fun k : Cl => reached ER (kcell (c, k)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Cl => semVal (kcell (c, k)) 0) ∗ bigSep Finset.univ fun k : Cl => roundState ER (Rd (xstg m ρ)) (kcell (c, k)) 0)
      ⊢ (|={Set.univ}=> bigSep Finset.univ fun k => iprop(∃ κ : ℕ, cellInv ER (Rd (xstg m ρ)) κ (kcell (c, k))) : sProp 𝕄) from by
        rw [← bigSep_sep']
        exact (bigSep_mono fun k _ => (Rounds.body_intro ER (Rd (xstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The neighbour across a direction, as a permutation of the devices. -/
def across (d : Side) : Dev nD ≃ Dev nD := ⟨nbr d, nbr d, nbr_nbr d, nbr_nbr d⟩

/-- Each token goes to the device that performs the duty. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv (across 0) (fun c : Dev nD => (dutyTok ER (barCell c) 0 0 : sProp 𝕄)),
    bigSep_univ_equiv (across 1) (fun c : Dev nD => (dutyTok ER (barCell c) 0 1 : sProp 𝕄)),
    bigSep_univ_comm (fun (c : Dev nD) (k : Tr) => (dutyTok ER (recvCell c k) 0 0 : sProp 𝕄)),
    bigSep_univ_comm (fun (c : Dev nD) (k : Tr) => (dutyTok ER (recvCell (tgt c k) k) 0 0 : sProp 𝕄)),
    bigSep_congr (s := (Finset.univ : Finset Tr)) (fun k _ => bigSep_univ_equiv (across (dir k)) (fun c : Dev nD => (dutyTok ER (recvCell c k) 0 0 : sProp 𝕄)))]
  exact BIBase.Entails.refl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cl → ℕ) (c : Dev nD) : iprop(recs (xstg m ρ) K ∗ places c ∗ payToks c) ⊢ G' m ρ c := by
  unfold G' ghost
  iintro ⟨H1, H2, H3⟩
  iexists K
  isplitl [H1]; · iexact H1
  isplitl [H2]; · iexact H2
  iexact H3

theorem regroup :
    (bigSep Finset.univ fun c : Dev nD => iprop((bigSep Finset.univ fun k => iprop(∃ κ : ℕ, cellInv ER (Rd (xstg m ρ)) κ (kcell (c, k))))
          ∗ places c ∗ (bigSep Finset.univ fun k : Cl => reached ER (kcell (c, k)) 0) ∗ toks c) : sProp 𝕄)
      ⊢ bigSep Finset.univ (G' m ρ) := by
  rw [bigSep_sep', bigSep_sep', bigSep_sep',
    ← bigSep_univ_prod (fun ck : Dev nD × Cl => iprop(∃ κ : ℕ, cellInv ER (Rd (xstg m ρ)) κ (kcell ck))),
    ← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (Rd (xstg m ρ)) κ (kcell ck) : sProp 𝕄))) $$ HI
  icases HK with ⟨%K, #HI⟩
  ihave Htk := (toks_across (F := F)) $$ Htok
  iapply (with_persistent (R := recs (xstg m ρ) K) fun c _ => ghost_intro m ρ K c)
  isplitr
  · unfold recs
    rw [bigSep_sep']
    isplitl; · iexact HI
    iexact HR
  · rw [bigSep_sep']
    isplitl [Hat]; · iexact Hat
    iexact Htk

/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

theorem nbr_swap {d : Side} {a b : Dev nD} : nbr d a = b ↔ a = nbr d b :=
  ⟨fun h => by rw [← h, nbr_nbr], fun h => by rw [h, nbr_nbr]⟩

theorem bar_iff {a b : Dev nD} : barCell a = barCell b ↔ a = b :=
  ⟨fun h => congrArg (fun g : GSem nD τ sig => g.1.1) h, fun h => h ▸ rfl⟩
theorem recv_iff {a b : Dev nD} {k l : Tr} : recvCell a k = recvCell b l ↔ a = b ∧ k = l :=
  ⟨fun h => by
    have e := kcell_inj (a₁ := (a, .inr (.inr k))) (a₂ := (b, .inr (.inr l))) h
    exact ⟨congrArg Prod.fst e, Sum.inr.inj (Sum.inr.inj (congrArg Prod.snd e))⟩, fun h => by rw [h.1, h.2]⟩
theorem recv_ne_bar (a b : Dev nD) (k : Tr) : recvCell a k ≠ barCell b := cell_ne (fun h => by cases h)

theorem owed_bar (d c : Dev nD) : O₀ d (barCell c) () = (if d = nbr 1 c then 1 else 0) + (if d = nbr 0 c then 1 else 0) := by
  have h0 : Ow 0 d (barCell c) () = 0 := by
    by_contra h
    obtain ⟨k, -, e⟩ := Ow_pos (Nat.pos_of_ne_zero h)
    exact recv_ne_bar _ _ _ e.symm
  unfold O₀ O₁
  rw [Pi.add_apply, Finsupp.add_apply, Pi.add_apply, Finsupp.add_apply, h0, Nat.zero_add, tallyAt_apply, tallyAt_apply]
  have key (e : Side) : (barCell c = barCell (nbr e d) ∧ () = ()) ↔ d = nbr e c :=
    ⟨fun h => nbr_swap.mp (bar_iff.mp h.1).symm, fun h => ⟨bar_iff.mpr (nbr_swap.mpr h).symm, rfl⟩⟩
  rw [if_congr (key 1) rfl rfl, if_congr (key 0) rfl rfl]

theorem owed_recv (d c : Dev nD) (k : Tr) : O₀ d (recvCell c k) () = if d = tgt c k then amt k else 0 := by
  unfold O₀ O₁
  rw [Pi.add_apply, Finsupp.add_apply, Pi.add_apply, Finsupp.add_apply, tallyAt_apply, tallyAt_apply,
    if_neg (fun h => recv_ne_bar _ _ _ h.1), if_neg (fun h => recv_ne_bar _ _ _ h.1), Nat.add_zero]
  unfold Ow
  rw [Finset.filter_true_of_mem fun k _ => Nat.zero_le _, Finset.sum_apply, Finsupp.finset_sum_apply, Finset.sum_eq_single k]
  · rw [tallyAt_apply]
    refine if_congr ⟨fun h => ?_, fun h => ⟨recv_iff.mpr ⟨?_, rfl⟩, rfl⟩⟩ rfl rfl
    · exact nbr_swap.mp (recv_iff.mp h.1).1.symm
    · exact (nbr_swap.mpr h).symm
  · intro l _ hl
    rw [tallyAt_apply, if_neg fun h => hl (recv_iff.mp h.1).2.symm]
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nbr 1 c) fun _ => 1, Finset.sum_ite_eq' Finset.univ (nbr 0 c) fun _ => 1, if_pos (Finset.mem_univ _), if_pos (Finset.mem_univ _)]

theorem launch_recv (c : Dev nD) (k : Tr) :
    tallyOn (recvCell c k) (launchCredit (Pipeline.owing O₀) 0 (recvCell c k)) = (tallyAt (recvCell c k) () (amt k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (tgt c k) fun _ => amt k,
    if_pos (Finset.mem_univ _)]

theorem credit (c : Dev nD) : (Pipeline.launchCred O₀ c : sProp 𝕄) ⊢ funds c := by
  unfold Pipeline.launchCred funds
  refine (bigSep_subset (Finset.subset_univ ((Finset.univ : Finset Cl).map ⟨csem, csem_inj⟩))).trans ?_
  rw [bigSep_map, bigSep_Cl]
  show iprop(cred (tallyOn (barCell c) (launchCredit (Pipeline.owing O₀) 0 (barCell c)))
      ∗ (bigSep Finset.univ fun k : Tr => cred (tallyOn (sendCell c k) (launchCredit (Pipeline.owing O₀) 0 (sendCell c k))))
      ∗ bigSep Finset.univ fun k : Tr => cred (tallyOn (recvCell c k) (launchCredit (Pipeline.owing O₀) 0 (recvCell c k))))
    ⊢ iprop(cred (tallyAt (barCell c) () 2) ∗ bigSep Finset.univ fun k : Tr => cred (tallyAt (recvCell c k) () (amt k)))
  iintro ⟨HB, -, HR⟩
  isplitl [HB]
  · iapply (Entails.of_eq (congrArg cred (launch_bar c))); iexact HB
  · iapply (show (bigSep Finset.univ fun k : Tr => (cred (tallyOn (recvCell c k) (launchCredit (Pipeline.owing O₀) 0 (recvCell c k))) : sProp 𝕄))
        ⊢ bigSep Finset.univ fun k : Tr => cred (tallyAt (recvCell c k) () (amt k)) from
      bigSep_mono fun k _ => Entails.of_eq (congrArg cred (launch_recv c k)))
    iexact HR

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credit (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ some
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ some
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every counter at zero, every fair execution of the kernel on the four
    devices ends, without a fault, with the arrays `finalA` and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end

end Cert.KernelIdealProof

end
-- ==== Proof.KernelIdeal.Value.lean ====
/-
The arrays after the run: the input as it was, the output the finished sum on every device.
-/
module

public import proofs.«01_k».proof.Proof.KernelIdeal.Launch
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

section
variable (m : (ℓ : Loc nD τ sig) → Buf (Elt F) ℓ) (ρ : Dev nD → PrngReg)

/-- A window's one block is its whole array. -/
theorem read_in (f : main_arg0.ty.Contents (Elt F)) : (win0_0.blk (0 : Fin 1)).view.read (Elt F) f = f := by
  funext i
  refine congrArg f (funext fun a => Fin.ext ?_)
  exact Pipeline.Window.rect_emb_val_of_index_zero win0_0 (0 : Fin 1) a rfl i
theorem read_out (f : main_v1.ty.Contents (Elt F)) : (win0_1.blk (0 : Fin 1)).view.read (Elt F) f = f := by
  funext i
  refine congrArg f (funext fun a => Fin.ext ?_)
  exact Pipeline.Window.rect_emb_val_of_index_zero win0_1 (0 : Fin 1) a rfl i

/-- The kernel reads its device's argument. -/
theorem xstg_eq (c : Dev nD) : xstg m ρ c = m ((c : Thread nD τ).loc main_arg0) := read_in _

/-- The output is the finished sum. -/
theorem finalA_out (c : Dev nD) : finalA m ρ c (1 : Fin 2) = Tt (xstg m ρ) := by
  rw [← read_out (finalA m ρ c (1 : Fin 2))]
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run, with the arrays named. -/
theorem run_value : θ_run defs (onTc (τ := τ) (main (F := F))) (s₀ m ρ) (fun r =>
    (∀ c : Dev nD, r.2.mem ((c : Thread nD τ).loc main_v1) = Tt (fun d : Dev nD => m ((d : Thread nD τ).loc main_arg0))
      ∧ r.2.mem ((c : Thread nD τ).loc main_arg0) = m ((c : Thread nD τ).loc main_arg0)) ∧ r.2.sem = fun _ => 0) := by
  have e : xstg m ρ = fun d : Dev nD => m ((d : Thread nD τ).loc main_arg0) := funext fun d => xstg_eq m ρ d
  exact (θ_run defs _ _).mono (fun _ h => ⟨fun c => ⟨(h.1 c (1 : Fin 2)).trans ((finalA_out m ρ c).trans (congrArg Tt e)),
    (h.1 c (0 : Fin 2)).trans (finalA_x m ρ c)⟩, h.2⟩) (run_main m ρ)

end

end Cert.KernelIdealProof

end
-- ==== Proof.Reference.lean ====
/-
The reference at an index: zero and the sum of the four row blocks of its argument.
-/
module

public import proofs.«01_k».proof.Proof.Gen.ReferenceIdeal.Run
public import Idealize.ShloMosaic.Lib.Pointwise
public import Idealize.ShloMosaic.Lib.Layout

@[expose] public section

noncomputable section

namespace Cert.ReferenceProof

open Cert.ReferenceIdeal Cert.ReferenceIdeal.Gen
open Idealize.ShloMosaic Idealize.ShloMosaic.TcCoe

/-- What the reference computes of its argument `x`. -/
def result (x : FVec Ideal S2048x512 .f32) : FVec Ideal S512x512 .f32 :=
  Host.reduceAdd (shapeCast _ x shapeCasts_S2048x512_S4x512x512) (constant S_ .f32 0x00000000#32) reducesTo_S4x512x512_S512x512_d0 h_S_

/-- At an index it is the sum over the four blocks. -/
theorem result_apply (x : FVec Ideal S2048x512 .f32) (j : S512x512.Idx) :
    result x j = ∑ c : Fin 4, Layout.block ⟨2, ![512, 512]⟩ ⟨2, ![2048, 512]⟩ 0 4 c x (by decide) j := by
  pointwise [result]
  refine Finset.sum_congr rfl fun c _ => congrArg x (funext fun a => Fin.ext ?_)
  fin_cases a <;> rfl

end Cert.ReferenceProof

end
-- ==== Proof.Total.lean ====
/-
At the ideal instance the kernel's finished sum is the sum of the four devices' inputs.
-/
module

public import proofs.«01_k».proof.Proof.KernelIdeal.Value
public import proofs.«01_k».proof.Proof.Reference

@[expose] public section

noncomputable section

namespace Cert.KernelIdealProof

open Cert.KernelIdeal Cert.KernelIdeal.Gen
open Idealize.ShloMosaic Idealize.ShloMosaic.TcCoe

/-- A device, its two neighbours and the one opposite are all the devices. -/
theorem devices (σ : Side) (o : Dev nD) :
    (Finset.univ : Finset (Dev nD)) = {o, nbr σ o, nbr (oth σ) o, nbr σ (nbr (oth σ) o)} := by
  revert σ o; decide
/-- And they are four. -/
theorem devices_ne (σ : Side) (o : Dev nD) :
    o ∉ ({nbr σ o, nbr (oth σ) o, nbr σ (nbr (oth σ) o)} : Finset (Dev nD))
      ∧ nbr σ o ∉ ({nbr (oth σ) o, nbr σ (nbr (oth σ) o)} : Finset (Dev nD))
      ∧ nbr (oth σ) o ∉ ({nbr σ (nbr (oth σ) o)} : Finset (Dev nD)) := by
  revert σ o; decide

/-- The finished sum is the sum over the devices, whatever the summands are, infinities included. -/
theorem Tt_eq_sum (X : Dev nD → S512x512.Idx → Ideal .f32) (i : S512x512.Idx) : Tt X i = ∑ d : Dev nD, (X d i : EReal) := by
  obtain ⟨h1, h2, h3⟩ := devices_ne (sd ((i 1).val / 256)) (owner (sd ((i 1).val / 256)) (i 0).val)
  rw [devices (sd ((i 1).val / 256)) (owner (sd ((i 1).val / 256)) (i 0).val), Finset.sum_insert h1, Finset.sum_insert h2,
    Finset.sum_insert h3, Finset.sum_singleton, ← add_assoc]
  rfl

/-- It is what the reference computes, when each device's input is its block of rows of the reference's argument. -/
theorem Tt_eq_result (X : Dev nD → S512x512.Idx → Ideal .f32) (x : FVec Ideal Cert.ReferenceIdeal.S2048x512 .f32)
    (h : ∀ c : Dev nD, X c = Layout.block ⟨2, ![512, 512]⟩ ⟨2, ![2048, 512]⟩ 0 4 c x (by decide)) : Tt X = Cert.ReferenceProof.result x := by
  funext i
  rw [Tt_eq_sum, Cert.ReferenceProof.result_apply]
  exact Finset.sum_congr rfl fun c _ => congrFun (h c) i

end Cert.KernelIdealProof

end
-- ==== Proof.lean ====
/-
The certificate: the kernel's run on four devices (Proof/Kernel/ and Proof/KernelIdeal/, the same
text over the two printed programs), the reference's run (Proof/Reference.lean), and that at the
ideal instance they leave the same values (Proof/Total.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Value
public import proofs.«01_k».proof.Proof.Total
public import Idealize.ShloMosaic.Adequacy
public import Idealize.ShloMosaic.Init

@[expose] public section

noncomputable section

namespace Cert.Proof

open Idealize.ShloMosaic Idealize.SL.Sem Cert.Kernel

/-- The kernel runs, without a fault, and leaves its argument and every semaphore as they were. -/
theorem quiescent_kernel : Cert.quiescent_Kernel := fun m ρ _ =>
  (θ_run Cert.Kernel.defs _ _).mono (fun _ h => ⟨fun c => (h.1 c).2, h.2⟩) (Cert.KernelProof.run_value (F := Bits) m ρ)

/-- The same of the kernel at the ideal instance. -/
theorem quiescent_kernelIdeal : Cert.quiescent_KernelIdeal := fun m ρ _ =>
  (θ_run Cert.KernelIdeal.defs _ _).mono (fun _ h => ⟨fun c => (h.1 c).2, h.2⟩) (Cert.KernelIdealProof.run_value (F := Ideal) m ρ)

/-- The same of the reference, which has no semaphore. -/
theorem quiescent_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the reference's result. -/
theorem algebraic : Cert.algebraic_KernelIdeal_ReferenceIdeal := fun m g m' g' _ hm =>
  ⟨Cert.ReferenceProof.result (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.KernelIdealProof.Tt_eq_result _ _ hm), (h.1 c).2⟩)
      (Cert.KernelIdealProof.run_value (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
